-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S24576x5120 : Shape := ⟨2, ![24576, 5120]⟩
abbrev S24576 : Shape := ⟨1, ![24576]⟩
abbrev S4x5120x2048 : Shape := ⟨3, ![4, 5120, 2048]⟩
abbrev S4x2048 : Shape := ⟨2, ![4, 2048]⟩
abbrev S_ : Shape := ⟨0, ![]⟩

class Facts : Prop where
  bcast_S_S24576x5120 : S_.BroadcastsInDim S24576x5120 (![] : Fin 0 → Fin S24576x5120.rank)
  reducesTo_S24576x5120_S_d0_1 : S24576x5120.ReducesTo [0, 1] S_
  h_S_ : 0 < S_.numel
  bcast_S_S24576 : S_.BroadcastsInDim S24576 (![] : Fin 0 → Fin S24576.rank)
  reducesTo_S24576_S_d0 : S24576.ReducesTo [0] S_

variable [Facts]

def fn {F : FTy → Type} [FloatOps F] (main_arg0 : FVec F S24576x5120 .bf16) (main_arg1 : IVec S24576 32) (main_arg2 : FVec F S4x5120x2048 .fp8e4m3) (main_arg3 : FVec F S4x2048 .f32) : IVec S_ 1 :=
  let main_v0 : FVec F S24576x5120 .bf16 := Host.absf main_arg0
  let main_cst : FVec F S_ .bf16 := constant S_ .bf16 0x7F7F#16
  let main_v1 : FVec F S24576x5120 .bf16 := broadcastInDim S24576x5120 ![] bcast_S_S24576x5120 main_cst
  let main_v2 : IVec S24576x5120 1 := cmpf .ole main_v0 main_v1
  let main_cst_0 : FVec F S_ .bf16 := constant S_ .bf16 0x7F80#16
  let main_v3 : FVec F S24576x5120 .bf16 := broadcastInDim S24576x5120 ![] bcast_S_S24576x5120 main_cst_0
  let main_v4 : IVec S24576x5120 1 := cmpf .oeq main_v0 main_v3
  let main_v5 : IVec S24576x5120 1 := ori main_v2 main_v4
  let main_c : IVec S_ 1 := constantI S_ 1 1#1
  let main_v6 : IVec S_ 1 := (fun x v => Host.reduce IntOp.andi x v reducesTo_S24576x5120_S_d0_1 h_S_) main_v5 main_c
  let main_c_1 : IVec S_ 32 := constantI S_ 32 0#32
  let main_v7 : IVec S24576 32 := broadcastInDim S24576 ![] bcast_S_S24576 main_c_1
  let main_v8 : IVec S24576 1 := cmpi .sge main_arg1 main_v7
  let main_c_2 : IVec S_ 32 := constantI S_ 32 4#32
  let main_v9 : IVec S24576 32 := broadcastInDim S24576 ![] bcast_S_S24576 main_c_2
  let main_v10 : IVec S24576 1 := cmpi .slt main_arg1 main_v9
  let main_v11 : IVec S24576 1 := andi main_v8 main_v10
  let main_c_3 : IVec S_ 1 := constantI S_ 1 1#1
  let main_v12 : IVec S_ 1 := (fun x v => Host.reduce IntOp.andi x v reducesTo_S24576_S_d0 h_S_) main_v11 main_c_3
  let main_v13 : IVec S_ 1 := andi main_v6 main_v12
  main_v13
-- ==== Kernel.lean ====
abbrev S24576x5120 : Shape := ⟨2, ![24576, 5120]⟩
abbrev S24576 : Shape := ⟨1, ![24576]⟩
abbrev S4x5120x2048 : Shape := ⟨3, ![4, 5120, 2048]⟩
abbrev S4x2048 : Shape := ⟨2, ![4, 2048]⟩
abbrev S24576x1 : Shape := ⟨2, ![24576, 1]⟩
abbrev S24576x2048 : Shape := ⟨2, ![24576, 2048]⟩
abbrev S256x1 : Shape := ⟨2, ![256, 1]⟩
abbrev S256x5120 : Shape := ⟨2, ![256, 5120]⟩
abbrev S256x2048 : Shape := ⟨2, ![256, 2048]⟩
abbrev S256 : Shape := ⟨1, ![256]⟩
abbrev S1x256 : Shape := ⟨2, ![1, 256]⟩
abbrev S256x256 : Shape := ⟨2, ![256, 256]⟩
abbrev S1x256x1 : Shape := ⟨3, ![1, 256, 1]⟩
abbrev S1 : Shape := ⟨1, ![1]⟩
abbrev S1x1x1 : Shape := ⟨3, ![1, 1, 1]⟩
abbrev S1x5120x2048 : Shape := ⟨3, ![1, 5120, 2048]⟩
abbrev S5120x2048 : Shape := ⟨2, ![5120, 2048]⟩
abbrev S1x2048 : Shape := ⟨2, ![1, 2048]⟩

abbrev nBuf : Space → Nat
  | .hbm => 8
  | .vmem => 12
  | .smem => 0
  | _ => 0

abbrev bufTy : (tb : Table) → Fin (tcTables nBuf tb) → BufTy
  | .hbm, ⟨0, _⟩ => ⟨S24576x5120, .bf16⟩
  | .hbm, ⟨1, _⟩ => ⟨S24576, .i32⟩
  | .hbm, ⟨2, _⟩ => ⟨S4x5120x2048, .fp8e4m3⟩
  | .hbm, ⟨3, _⟩ => ⟨S4x2048, .f32⟩
  | .hbm, ⟨4, _⟩ => ⟨S24576x1, .i32⟩
  | .hbm, ⟨5, _⟩ => ⟨S24576x2048, .bf16⟩
  | .hbm, ⟨6, _⟩ => ⟨S24576x5120, .fp8e4m3⟩
  | .hbm, ⟨7, _⟩ => ⟨S24576x1, .f32⟩
  | .local _ .vmem, ⟨0, _⟩ => ⟨S256x1, .i32⟩
  | .local _ .vmem, ⟨1, _⟩ => ⟨S256x1, .i32⟩
  | .local _ .vmem, ⟨2, _⟩ => ⟨S256x5120, .bf16⟩
  | .local _ .vmem, ⟨3, _⟩ => ⟨S256x5120, .bf16⟩
  | .local _ .vmem, ⟨4, _⟩ => ⟨S4x5120x2048, .fp8e4m3⟩
  | .local _ .vmem, ⟨5, _⟩ => ⟨S4x2048, .f32⟩
  | .local _ .vmem, ⟨6, _⟩ => ⟨S256x2048, .bf16⟩
  | .local _ .vmem, ⟨7, _⟩ => ⟨S256x2048, .bf16⟩
  | .local _ .vmem, ⟨8, _⟩ => ⟨S256x5120, .fp8e4m3⟩
  | .local _ .vmem, ⟨9, _⟩ => ⟨S256x5120, .fp8e4m3⟩
  | .local _ .vmem, ⟨10, _⟩ => ⟨S256x1, .f32⟩
  | .local _ .vmem, ⟨11, _⟩ => ⟨S256x1, .f32⟩
  | _, _ => ⟨S24576x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x5120x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S24576x5120 : Shape := ⟨2, ![24576, 5120]⟩
abbrev S24576 : Shape := ⟨1, ![24576]⟩
abbrev S4x5120x2048 : Shape := ⟨3, ![4, 5120, 2048]⟩
abbrev S4x2048 : Shape := ⟨2, ![4, 2048]⟩
abbrev S24576x1 : Shape := ⟨2, ![24576, 1]⟩
abbrev S24576x2048 : Shape := ⟨2, ![24576, 2048]⟩
abbrev S1x256 : Shape := ⟨2, ![1, 256]⟩
abbrev S24576x256 : Shape := ⟨2, ![24576, 256]⟩
abbrev S1x5120x2048 : Shape := ⟨3, ![1, 5120, 2048]⟩
abbrev S5120x2048 : Shape := ⟨2, ![5120, 2048]⟩
abbrev S1x2048 : Shape := ⟨2, ![1, 2048]⟩

abbrev nBuf : Space → Nat
  | .hbm => 8
  | .vmem => 7
  | .smem => 0
  | _ => 0

abbrev bufTy : (tb : Table) → Fin (tcTables nBuf tb) → BufTy
  | .hbm, ⟨0, _⟩ => ⟨S24576x5120, .bf16⟩
  | .hbm, ⟨1, _⟩ => ⟨S24576, .i32⟩
  | .hbm, ⟨2, _⟩ => ⟨S4x5120x2048, .fp8e4m3⟩
  | .hbm, ⟨3, _⟩ => ⟨S4x2048, .f32⟩
  | .hbm, ⟨4, _⟩ => ⟨S24576x1, .i32⟩
  | .hbm, ⟨5, _⟩ => ⟨S24576x2048, .bf16⟩
  | .hbm, ⟨6, _⟩ => ⟨S24576x5120, .fp8e4m3⟩
  | .hbm, ⟨7, _⟩ => ⟨S24576x1, .f32⟩
  | .local _ .vmem, ⟨0, _⟩ => ⟨S24576x5120, .bf16⟩
  | .local _ .vmem, ⟨1, _⟩ => ⟨S24576x1, .i32⟩
  | .local _ .vmem, ⟨2, _⟩ => ⟨S4x5120x2048, .fp8e4m3⟩
  | .local _ .vmem, ⟨3, _⟩ => ⟨S4x2048, .f32⟩
  | .local _ .vmem, ⟨4, _⟩ => ⟨S24576x2048, .bf16⟩
  | .local _ .vmem, ⟨5, _⟩ => ⟨S24576x5120, .fp8e4m3⟩
  | .local _ .vmem, ⟨6, _⟩ => ⟨S24576x1, .f32⟩
  | _, _ => ⟨S24576x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x5120x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelBody.lean ====
/-
  (The kernel as it stands, before its idealisation.) One point of the kernel's grid: what the body leaves in the three output blocks, for any floats `F`.

  The body writes the whole code block and the whole scale block, then goes through the four experts: if a row of the
  token block chose expert `e`, it replaces the rows of the output block that chose `e` and keeps the others. The output
  block is read before anything was stored in it, so what it ends at depends on what it held: `outOf … Y` says how, from
  the contents `Y` found there.
-/
module

public import proofs.«01_k».proof.Proof.Gen.Kernel.Frame
public import proofs.«01_k».proof.Proof.Gen.Kernel.Skeleton
public import Idealize.ShloMosaic.Lib.Pipeline.Value

@[expose] public section

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The zero offset of rank two, as the stores and loads of whole blocks spell it. -/
theorem off2 : (![0, 0] : Fin 2 → ℕ) = fun _ => 0 := by decide

/-- What a buffer reads after a guarded store of the whole block: the payload if the guard held, else what it read. -/
theorem read_guard {s : Shape} {e : EltTy} (v : View sig .tc .vmem s e) (f : v.ty.Contents (Elt F)) (b : BitVec 1)
    {off : Fin s.rank → ℕ} (h : off = fun _ => 0) (inb : ∀ a, off a + s.size a ≤ s.size a) (p : s.Idx → Elt F e) :
    v.read (Elt F) (if _ : b = 1#1 then v.writes (Elt F) f [⟨Rect.unit off s.size inb, p⟩] else f)
      = if b = 1#1 then p else v.read (Elt F) f := by
  split
  · rw [View.read_writes_eq_canon v f _ fun y => ⟨_, List.mem_singleton_self _, View.mem_set_unit_zero h inb y⟩]
    exact View.canon_unit_zero h inb p
  · rfl

/-- The codes of a block of rows. -/
def codesOf (x : Vec F S256x5120 .bf16) : Vec F S256x5120 .fp8e4m3 := k0_pay8 (k0_pay6 x) k0_pay7

/-- The scales of a block of rows. -/
def scaleOf (x : Vec F S256x5120 .bf16) : Vec F S256x1 .f32 := k0_pay5 x

/-- The guard of an expert, from the largest entry of its row mask. -/
def hit (b : IVec S1x1x1 32) : BitVec 1 :=
  Scalar.cmpi .ne (Scalar.extui (Scalar.cmpi .sgt (extractAt ![0, 0, 0] b inpos_S1x1x1_p0_0_0) 0#32) : BitVec 32) 0#32

/-- Expert `e`'s matrix and its row of column scales. -/
abbrev w0 (w : Vec F S4x5120x2048 .fp8e4m3) : Vec F S1x5120x2048 .fp8e4m3 := View.ld w (Rect.unit (s := S4x5120x2048) ![0, 0, 0] S1x5120x2048.size inb_S4x5120x2048_S1x5120x2048_0_0_0)
abbrev w1 (w : Vec F S4x5120x2048 .fp8e4m3) : Vec F S1x5120x2048 .fp8e4m3 := View.ld w (Rect.unit (s := S4x5120x2048) ![1, 0, 0] S1x5120x2048.size inb_S4x5120x2048_S1x5120x2048_1_0_0)
abbrev w2 (w : Vec F S4x5120x2048 .fp8e4m3) : Vec F S1x5120x2048 .fp8e4m3 := View.ld w (Rect.unit (s := S4x5120x2048) ![2, 0, 0] S1x5120x2048.size inb_S4x5120x2048_S1x5120x2048_2_0_0)
abbrev w3 (w : Vec F S4x5120x2048 .fp8e4m3) : Vec F S1x5120x2048 .fp8e4m3 := View.ld w (Rect.unit (s := S4x5120x2048) ![3, 0, 0] S1x5120x2048.size inb_S4x5120x2048_S1x5120x2048_3_0_0)
abbrev s0 (w : Vec F S4x2048 .f32) : Vec F S1x2048 .f32 := View.ld w (Rect.unit (s := S4x2048) ![0, 0] S1x2048.size inb_S4x2048_S1x2048_0_0)
abbrev s1 (w : Vec F S4x2048 .f32) : Vec F S1x2048 .f32 := View.ld w (Rect.unit (s := S4x2048) ![1, 0] S1x2048.size inb_S4x2048_S1x2048_1_0)
abbrev s2 (w : Vec F S4x2048 .f32) : Vec F S1x2048 .f32 := View.ld w (Rect.unit (s := S4x2048) ![2, 0] S1x2048.size inb_S4x2048_S1x2048_2_0)
abbrev s3 (w : Vec F S4x2048 .f32) : Vec F S1x2048 .f32 := View.ld w (Rect.unit (s := S4x2048) ![3, 0] S1x2048.size inb_S4x2048_S1x2048_3_0)

variable (ids : Vec F S256x1 .i32) (x : Vec F S256x5120 .bf16) (w : Vec F S4x5120x2048 .fp8e4m3) (ws : Vec F S4x2048 .f32)

/-- The output block after each expert in turn, from what it held before. -/
def step0 (Y : Vec F S256x2048 .bf16) : Vec F S256x2048 .bf16 :=
  if hit (k0_pay11 (F := F) ids) = 1#1 then k0_pay12 ids (codesOf x) (w0 w) (scaleOf x) (s0 ws) Y else Y
def step1 (Y : Vec F S256x2048 .bf16) : Vec F S256x2048 .bf16 :=
  if hit (k0_pay14 (F := F) ids) = 1#1 then k0_pay15 ids (codesOf x) (w1 w) (scaleOf x) (s1 ws) Y else Y
def step2 (Y : Vec F S256x2048 .bf16) : Vec F S256x2048 .bf16 :=
  if hit (k0_pay17 (F := F) ids) = 1#1 then k0_pay18 ids (codesOf x) (w2 w) (scaleOf x) (s2 ws) Y else Y
def step3 (Y : Vec F S256x2048 .bf16) : Vec F S256x2048 .bf16 :=
  if hit (k0_pay2 (k0_pay9 (F := F) ids) 3#32) = 1#1 then k0_pay3 (k0_pay9 (F := F) ids) 3#32 (codesOf x) (w3 w) (scaleOf x) (s3 ws) Y else Y

/-- The output block after the body, from the input blocks and what it held before. -/
def outOf (Y : Vec F S256x2048 .bf16) : Vec F S256x2048 .bf16 :=
  step3 ids x w ws (step2 ids x w ws (step1 ids x w ws (step0 ids x w ws Y)))

set_option maxHeartbeats 4000000 in
/-- The body's triple: from the input blocks at `ids`, `x`, `w`, `ws` and the output block at `Y`, the body ends with the
    inputs as they were, the output block at `outOf … Y`, the codes and the scales at their values. -/
theorem sound_kernel (c : Dev nD) (E : Set ℕ) (i : grid0.Coords) (arg1 : Memref sig .tc .vmem S256x1 .i32) (harg1 : arg1.IsWhole) (arg2 : Memref sig .tc .vmem S256x5120 .bf16) (harg2 : arg2.IsWhole) (arg3 : Memref sig .tc .vmem S4x5120x2048 .fp8e4m3) (harg3 : arg3.IsWhole) (arg4 : Memref sig .tc .vmem S4x2048 .f32) (harg4 : arg4.IsWhole) (arg5 : Memref sig .tc .vmem S256x2048 .bf16) (harg5 : arg5.IsWhole) (arg6 : Memref sig .tc .vmem S256x5120 .fp8e4m3) (harg6 : arg6.IsWhole) (arg7 : Memref sig .tc .vmem S256x1 .f32) (harg7 : arg7.IsWhole)
    (Y : Vec F S256x2048 .bf16) (K : PUnit → sProp 𝕄) :
    iprop(owns (c : Thread nD τ) arg1 fullShare ids ∗ owns (c : Thread nD τ) arg2 fullShare x ∗ owns (c : Thread nD τ) arg3 fullShare w ∗ owns (c : Thread nD τ) arg4 fullShare ws ∗ owns (c : Thread nD τ) arg5 fullShare Y ∗ (∃ d, owns (c : Thread nD τ) arg6 fullShare d) ∗ (∃ d, owns (c : Thread nD τ) arg7 fullShare d)
        ∗ (iprop(owns (c : Thread nD τ) arg1 fullShare ids ∗ owns (c : Thread nD τ) arg2 fullShare x ∗ owns (c : Thread nD τ) arg3 fullShare w ∗ owns (c : Thread nD τ) arg4 fullShare ws ∗ owns (c : Thread nD τ) arg5 fullShare (outOf ids x w ws Y) ∗ owns (c : Thread nD τ) arg6 fullShare (codesOf x) ∗ owns (c : Thread nD τ) arg7 fullShare (scaleOf x)) -∗ K ⟨⟩))
      ⊢ wp frame (wpE (defs₀ (F := F)) Variants.none c none) E (cc0_dense_masked i arg1 harg1 arg2 harg2 arg3 harg3 arg4 harg4 arg5 harg5 arg6 harg6 arg7 harg7) K := by
  simp only [cc0_dense_masked_eq_skeleton]; unfold cc0_dense_masked_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    have e0 : View.readAt (Elt F) arg1.view (Rect.unit (s := S256x1) ![0, 0] S256x1.size inb_S256x1_S256x1_0_0).toLoadRect f1 = arg1.view.read (Elt F) f1 :=
      View.ld_unit_zero off2 _ _
    have e2 : View.readAt (Elt F) arg2.view (Rect.unit (s := S256x5120) ![0, 0] S256x5120.size inb_S256x5120_S256x5120_0_0).toLoadRect f2 = arg2.view.read (Elt F) f2 :=
      View.ld_unit_zero off2 _ _
    have e5 : ∀ f, View.readAt (Elt F) arg5.view (Rect.unit (s := S256x2048) ![0, 0] S256x2048.size inb_S256x2048_S256x2048_0_0).toLoadRect f = arg5.view.read (Elt F) f :=
      fun f => View.ld_unit_zero off2 _ _
    have hx : sound_kernel.sl.v89 c arg2 arg6 f2 = codesOf (arg2.view.read (Elt F) f2) := by
      refine (View.readCov_unit_zero _ off2 _ _).trans ?_
      unfold sound_kernel.sl.r_1
      rw [e2, codesOf]
    have hsc : sound_kernel.sl.v94 c arg2 arg7 f2 = scaleOf (arg2.view.read (Elt F) f2) := by
      refine (View.readCov_unit_zero _ off2 _ _).trans ?_
      unfold sound_kernel.sl.r
      rw [e2, scaleOf]
    have h0 : sound_kernel.sl.v58 c arg1 f1 = hit (k0_pay11 (F := F) (arg1.view.read (Elt F) f1)) := by
      rw [← e0]
      unfold hit sound_kernel.sl.v58 sound_kernel.sl.v57 sound_kernel.sl.v56 sound_kernel.sl.v55
      with_reducible rfl
    have h1 : sound_kernel.sl.v68 c arg1 f1 = hit (k0_pay14 (F := F) (arg1.view.read (Elt F) f1)) := by
      rw [← e0]
      unfold hit sound_kernel.sl.v68 sound_kernel.sl.v67 sound_kernel.sl.v66 sound_kernel.sl.v65
      with_reducible rfl
    have h2 : sound_kernel.sl.v78 c arg1 f1 = hit (k0_pay17 (F := F) (arg1.view.read (Elt F) f1)) := by
      rw [← e0]
      unfold hit sound_kernel.sl.v78 sound_kernel.sl.v77 sound_kernel.sl.v76 sound_kernel.sl.v75
      with_reducible rfl
    have hr : sound_kernel.sl.r_2 c arg1 f1 = k0_pay9 (F := F) (arg1.view.read (Elt F) f1) := by
      unfold sound_kernel.sl.r_2
      rw [e0]
    have hx1 : sound_kernel.sl.v89_1 c arg2 arg6 f2 = codesOf (arg2.view.read (Elt F) f2) := hx
    have hsc1 : sound_kernel.sl.v94_1 c arg2 arg7 f2 = scaleOf (arg2.view.read (Elt F) f2) := hsc
    have hA : sound_kernel.sl.v103 c arg1 arg2 arg3 arg4 arg5 arg6 arg7 f1 f2 f3 f4 f5 = step0 (arg1.view.read (Elt F) f1) (arg2.view.read (Elt F) f2) (arg3.view.read (Elt F) f3) (arg4.view.read (Elt F) f4) (arg5.view.read (Elt F) f5) := by
      refine (e5 _).trans ((read_guard _ _ _ off2 _ _).trans ?_)
      rw [h0, hx, hsc, e0, e5, step0]
      exact ite_congr rfl (fun _ => rfl) (fun _ => rfl)
    have hA' := (e5 _).symm.trans hA
    have hB : sound_kernel.sl.v103_1 c arg1 arg2 arg3 arg4 arg5 arg6 arg7 f1 f2 f3 f4 f5 = step1 (arg1.view.read (Elt F) f1) (arg2.view.read (Elt F) f2) (arg3.view.read (Elt F) f3) (arg4.view.read (Elt F) f4) (step0 (arg1.view.read (Elt F) f1) (arg2.view.read (Elt F) f2) (arg3.view.read (Elt F) f3) (arg4.view.read (Elt F) f4) (arg5.view.read (Elt F) f5)) := by
      refine (e5 _).trans ((read_guard _ _ _ off2 _ _).trans ?_)
      rw [hA', h1, hx, hsc, e0, hA, step1]
      exact ite_congr rfl (fun _ => rfl) (fun _ => rfl)
    have hB' := (e5 _).symm.trans hB
    have hC : sound_kernel.sl.v103_2 c arg1 arg2 arg3 arg4 arg5 arg6 arg7 f1 f2 f3 f4 f5 = step2 (arg1.view.read (Elt F) f1) (arg2.view.read (Elt F) f2) (arg3.view.read (Elt F) f3) (arg4.view.read (Elt F) f4) (step1 (arg1.view.read (Elt F) f1) (arg2.view.read (Elt F) f2) (arg3.view.read (Elt F) f3) (arg4.view.read (Elt F) f4) (step0 (arg1.view.read (Elt F) f1) (arg2.view.read (Elt F) f2) (arg3.view.read (Elt F) f3) (arg4.view.read (Elt F) f4) (arg5.view.read (Elt F) f5))) := by
      refine (e5 _).trans ((read_guard _ _ _ off2 _ _).trans ?_)
      rw [hB', h2, hx, hsc, e0, hB, step2]
      exact ite_congr rfl (fun _ => rfl) (fun _ => rfl)
    have hC' := (e5 _).symm.trans hC
    refine (read_guard _ _ _ off2 _ _).trans ?_
    rw [hC', hC, hx1, hsc1, hr, outOf, step3, hit]
    exact ite_congr rfl (fun _ => rfl) (fun _ => rfl)
  isplitl [H6]
  · iexists _; isplitr
    swap; · iexact H6
    ipureintro
    unfold sound_kernel.sl.H6_1
    refine (View.read_writes_eq_canon _ _ _ fun y => ⟨_, List.mem_singleton_self _, View.mem_set_unit_zero off2 inb_S256x5120_S256x5120_0_0 y⟩).trans ?_
    refine (View.canon_unit_zero off2 _ _).trans ?_
    exact congrArg codesOf (View.ld_unit_zero off2 _ _)
  iexists _; isplitr
  swap; · iexact H7
  ipureintro
  unfold sound_kernel.sl.H7_1
  refine (View.read_writes_eq_canon _ _ _ fun y => ⟨_, List.mem_singleton_self _, View.mem_set_unit_zero off2 inb_S256x1_S256x1_0_0 y⟩).trans ?_
  refine (View.canon_unit_zero off2 _ _).trans ?_
  exact congrArg scaleOf (View.ld_unit_zero off2 _ _)

end Cert.Kernel.Body
end
-- ==== Proof.KernelRun.lean ====
/-
  (The kernel as it stands, before its idealisation.) The kernel's run, for any floats `F`: what its three output arrays hold at the end, block by block, and that its argument
  arrays end unchanged.

  Window 4, the output block, is read by the body before anything was stored in it. What the body leaves there is therefore
  stated by a relation (`Rl`): it is `outOf` of the input blocks and of SOME contents. The other windows are stated exactly.
-/
module

public import proofs.«01_k».proof.Proof.KernelBody
public import Idealize.ShloMosaic.Lib.Pipeline.DatRel

@[expose] public section

set_option maxRecDepth 16384

noncomputable section

namespace Cert.Kernel.Run

open Cert.Kernel Cert.Kernel.Gen Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The exact proof data: every input block as its array holds it, the code and scale blocks at their values. What is said
    of window 4 is replaced by `Rl`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesOf (iblk m c 1 t)
    | ⟨6, _⟩ => scaleOf (iblk m c 1 t)
  Φ _ := Pipeline.ΦA spec0 c
  q _ := fullShare
  owed _ := 0

/-- The one window whose contents are stated by a relation: the output block. -/
def fgt (w : Fin cfg0.W) : Bool := match w with
  | ⟨4, _⟩ => true
  | _ => false

/-- What the body leaves in the output block: `outOf` of the input blocks and of some contents found there. -/
def Rl (c : Dev nD) (w : Fin cfg0.W) (t : Fin cfg0.N) (X : (cfg0.win w).block.Idx → Elt F (cfg0.win w).elt) : Prop :=
  match w, X with
  | ⟨4, _⟩, X => ∃ Y, X = outOf (iblk m c 0 t) (iblk m c 1 t) (iblk m c 2 t) (iblk m c 3 t) Y
  | ⟨0, _⟩, _ => True
  | ⟨1, _⟩, _ => True
  | ⟨2, _⟩, _ => True
  | ⟨3, _⟩, _ => True
  | ⟨5, _⟩, _ => True
  | ⟨6, _⟩, _ => True

/-- The relational proof data of the run. -/
def rdats (c : Dev nD) : RDat τ (Elt F) Unit ℕ (UR sig nD τ) ℕ cfg0 c := (dats m c).toRRel fgt (Rl m c)

theorem A_eq (c : Dev nD) (w : Fin cfg0.W) : (dats m c).A w = V m c (Pipeline.arrRef spec0 w) := by
  dsimp only [dats]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_5 (c : Dev nD) (t : Fin cfg0.N) : (dats m c).after 5 t = codesOf (iblk m c 1 t) := by dsimp only [dats]
theorem after_6 (c : Dev nD) (t : Fin cfg0.N) : (dats m c).after 6 t = scaleOf (iblk m c 1 t) := by dsimp only [dats]

/-- At every point each input's staging buffer holds its block. -/
theorem before_0 (c : Dev nD) (t : Fin cfg0.N) (d) : (dats m c).before 0 t d = iblk m c 0 t :=
  before0_0_of m (dats m c) (A_eq m c 0) (after_0 m c) t d
theorem before_1 (c : Dev nD) (t : Fin cfg0.N) (d) : (dats m c).before 1 t d = iblk m c 1 t :=
  before0_1_of m (dats m c) (A_eq m c 1) (after_1 m c) t d
theorem before_2 (c : Dev nD) (t : Fin cfg0.N) (d) : (dats m c).before 2 t d = iblk m c 2 t :=
  before0_2_of m (dats m c) (A_eq m c 2) (after_2 m c) t d
theorem before_3 (c : Dev nD) (t : Fin cfg0.N) (d) : (dats m c).before 3 t d = iblk m c 3 t :=
  before0_3_of m (dats m c) (A_eq m c 3) (after_3 m c) t d

/-- What the body is called with at a point, window by window. -/
def bodyPre (c : Dev nD) (t : Fin cfg0.N) : sProp 𝕄 :=
  iprop((dats m c).Φ t.castSucc ∗ (dats m c).owesAt () t.castSucc
    ∗ (∃ d, owns (c : Thread nD τ) (st0_0 t) fullShare ((dats m c).before 0 t d))
    ∗ (∃ d, owns (c : Thread nD τ) (st0_1 t) fullShare ((dats m c).before 1 t d))
    ∗ (∃ d, owns (c : Thread nD τ) (st0_2 t) fullShare ((dats m c).before 2 t d))
    ∗ (∃ d, owns (c : Thread nD τ) (st0_3 t) fullShare ((dats m c).before 3 t d))
    ∗ (∃ Y, ⌜((dats m c).toRRel fgt (Rl m c)).Finds 4 t Y⌝ ∗ owns (c : Thread nD τ) (st0_4 t) fullShare Y)
    ∗ (∃ d, owns (c : Thread nD τ) (st0_5 t) fullShare ((dats m c).before 5 t d))
    ∗ (∃ d, owns (c : Thread nD τ) (st0_6 t) fullShare ((dats m c).before 6 t d)))

/-- and what it returns. -/
def bodyPost (c : Dev nD) (t : Fin cfg0.N) : sProp 𝕄 :=
  iprop((dats m c).Φ t.succ ∗ (dats m c).owesAt () t.succ
    ∗ owns (c : Thread nD τ) (st0_0 t) fullShare ((dats m c).after 0 t)
    ∗ owns (c : Thread nD τ) (st0_1 t) fullShare ((dats m c).after 1 t)
    ∗ owns (c : Thread nD τ) (st0_2 t) fullShare ((dats m c).after 2 t)
    ∗ owns (c : Thread nD τ) (st0_3 t) fullShare ((dats m c).after 3 t)
    ∗ (∃ X, ⌜∃ Y, X = outOf (iblk m c 0 t) (iblk m c 1 t) (iblk m c 2 t) (iblk m c 3 t) Y⌝ ∗ owns (c : Thread nD τ) (st0_4 t) fullShare X)
    ∗ owns (c : Thread nD τ) (st0_5 t) fullShare ((dats m c).after 5 t)
    ∗ owns (c : Thread nD τ) (st0_6 t) fullShare ((dats m c).after 6 t))

/-- The body at any point, from its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m c).Φ t.succ = (dats m c).Φ t.castSucc from rfl,
    show (dats m c).owesAt () t.succ = (dats m c).owesAt () t.castSucc from rfl,
    after_0, after_1, after_2, after_3, after_5, after_6]
  iintro ⟨HΦ, Ho, ⟨%d0, H0⟩, ⟨%d1, H1⟩, ⟨%d2, H2⟩, ⟨%d3, H3⟩, ⟨%Y, -, H4⟩, ⟨%d5, H5⟩, ⟨%d6, H6⟩⟩
  iapply (sound_kernel (iblk m c 0 t) (iblk m c 1 t) (iblk m c 2 t) (iblk m c 3 t) c Set.univ _ _ _ _ _ _ _ _ _ _ _ _ _ _ _ Y _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists _; isplitr
    swap; · iexact H4
    ipureintro; exact ⟨Y, rfl⟩
  isplitl [H5]; · iexact H5
  iexact H6

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point, the output block held to `Rl`. -/
theorem body_obligation_rel (c : Dev nD) :
    BodyObligationRel (dats m c) (defs₀ (F := F)) Variants.none () Set.univ fgt (Rl m c) := fun t => by
  rw [bigSep_W0, bigSep_W0, defs₀_row]
  exact triple_restated (sound_body m c t) rfl .rfl fun _ => .rfl

theorem body_obligation (c : Dev nD) :
    (rdats m c).BodyObligation (defs₀ (F := F)) Variants.none () Set.univ := (body_obligation_rel m c).toRRel

theorem rdats_A (c : Dev nD) : (rdats m c).A = (dats m c).A := (dats m c).toRRel_A
theorem rdats_Φ (c : Dev nD) : (rdats m c).Φ = (dats m c).Φ := (dats m c).toRRel_Φ
theorem rdats_owed (c : Dev nD) : (rdats m c).owed = (dats m c).owed := (dats m c).toRRel_owed
theorem rdats_share (c : Dev nD) (w : Fin cfg0.W) : (rdats m c).share w = fullShare := by
  have h : (rdats m c).share = (dats m c).share := (dats m c).toRRel_share
  rw [h]; exact (dats m c).share_full (fun _ => rfl) w

set_option backward.isDefEq.respectTransparency.types false in
set_option maxHeartbeats 800000 in
/-- The launch: from any memory with zero counters every weakly fair execution of the kernel terminates, and every final
    state has every array at what the proof data allow, every other buffer as the region found it, and the counters zero. -/
theorem run_quiescent : θ_run defs (onTc (τ := τ) (main (F := F))) (s₀ m ρ)
    (fun r => RDat.FramePost cfg0 (rdats m) (V m) r ∧ r.2.sem = fun _ => 0) :=
  RDat.θ_run_frame (Q' := _) cfgs (0 : Fin 1) launch0 defs₀ Variants.none (rdats m) m ρ main
    (hbody := body_obligation m) (hshare := rdats_share m)
    (howed := fun c t => by rw [rdats_owed]; rfl) (V := V m) (hmain := hmain m Variants.none)
    (hA := fun c w => by rw [rdats_A]; exact A_eq m c w) (hΦ := fun c t => by rw [rdats_Φ]; rfl)

/-- What a final state says of the argument arrays: each ends as it began. -/
theorem args_of {r : PUnit × MemSt nD τ sig (Elt F)} (h : RDat.FramePost cfg0 (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hA : ∀ w, (rdats m c).A w = V m c (Pipeline.arrRef spec0 w) := fun w => by rw [rdats_A]; exact A_eq m c w
  exact ⟨(RDat.FramePost.arr_in h c 1 rfl).trans ((hA 1).trans (V_main_arg0 m c)),
    ((h c).2 main_arg1 (Pipeline.mem_restRefs_of main_arg1 (by decide) (by decide))).trans (V_main_arg1 m c),
    (RDat.FramePost.arr_in h c 2 rfl).trans ((hA 2).trans (V_main_arg2 m c)),
    (RDat.FramePost.arr_in h c 3 rfl).trans ((hA 3).trans (V_main_arg3 m c))⟩

/-- The frame: the argument arrays end unchanged and every counter of the machine is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_of m h.1 c, h.2⟩) (run_quiescent m ρ)

end Cert.Kernel.Run
end
-- ==== Proof.KernelIdealBody.lean ====
/-
  One point of the kernel's grid: what the body leaves in the three output blocks, for any floats `F`.

  The body writes the whole code block and the whole scale block, then goes through the four experts: if a row of the
  token block chose expert `e`, it replaces the rows of the output block that chose `e` and keeps the others. The output
  block is read before anything was stored in it, so what it ends at depends on what it held: `outOf … Y` says how, from
  the contents `Y` found there.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The zero offset of rank two, as the stores and loads of whole blocks spell it. -/
theorem off2 : (![0, 0] : Fin 2 → ℕ) = fun _ => 0 := by decide

/-- What a buffer reads after a guarded store of the whole block: the payload if the guard held, else what it read. -/
theorem read_guard {s : Shape} {e : EltTy} (v : View sig .tc .vmem s e) (f : v.ty.Contents (Elt F)) (b : BitVec 1)
    {off : Fin s.rank → ℕ} (h : off = fun _ => 0) (inb : ∀ a, off a + s.size a ≤ s.size a) (p : s.Idx → Elt F e) :
    v.read (Elt F) (if _ : b = 1#1 then v.writes (Elt F) f [⟨Rect.unit off s.size inb, p⟩] else f)
      = if b = 1#1 then p else v.read (Elt F) f := by
  split
  · rw [View.read_writes_eq_canon v f _ fun y => ⟨_, List.mem_singleton_self _, View.mem_set_unit_zero h inb y⟩]
    exact View.canon_unit_zero h inb p
  · rfl

/-- The codes of a block of rows. -/
def codesOf (x : Vec F S256x5120 .bf16) : Vec F S256x5120 .fp8e4m3 := k0_pay8 (k0_pay6 x) k0_pay7

/-- The scales of a block of rows. -/
def scaleOf (x : Vec F S256x5120 .bf16) : Vec F S256x1 .f32 := k0_pay5 x

/-- The guard of an expert, from the largest entry of its row mask. -/
def hit (b : IVec S1x1x1 32) : BitVec 1 :=
  Scalar.cmpi .ne (Scalar.extui (Scalar.cmpi .sgt (extractAt ![0, 0, 0] b inpos_S1x1x1_p0_0_0) 0#32) : BitVec 32) 0#32

/-- Expert `e`'s matrix and its row of column scales. -/
abbrev w0 (w : Vec F S4x5120x2048 .fp8e4m3) : Vec F S1x5120x2048 .fp8e4m3 := View.ld w (Rect.unit (s := S4x5120x2048) ![0, 0, 0] S1x5120x2048.size inb_S4x5120x2048_S1x5120x2048_0_0_0)
abbrev w1 (w : Vec F S4x5120x2048 .fp8e4m3) : Vec F S1x5120x2048 .fp8e4m3 := View.ld w (Rect.unit (s := S4x5120x2048) ![1, 0, 0] S1x5120x2048.size inb_S4x5120x2048_S1x5120x2048_1_0_0)
abbrev w2 (w : Vec F S4x5120x2048 .fp8e4m3) : Vec F S1x5120x2048 .fp8e4m3 := View.ld w (Rect.unit (s := S4x5120x2048) ![2, 0, 0] S1x5120x2048.size inb_S4x5120x2048_S1x5120x2048_2_0_0)
abbrev w3 (w : Vec F S4x5120x2048 .fp8e4m3) : Vec F S1x5120x2048 .fp8e4m3 := View.ld w (Rect.unit (s := S4x5120x2048) ![3, 0, 0] S1x5120x2048.size inb_S4x5120x2048_S1x5120x2048_3_0_0)
abbrev s0 (w : Vec F S4x2048 .f32) : Vec F S1x2048 .f32 := View.ld w (Rect.unit (s := S4x2048) ![0, 0] S1x2048.size inb_S4x2048_S1x2048_0_0)
abbrev s1 (w : Vec F S4x2048 .f32) : Vec F S1x2048 .f32 := View.ld w (Rect.unit (s := S4x2048) ![1, 0] S1x2048.size inb_S4x2048_S1x2048_1_0)
abbrev s2 (w : Vec F S4x2048 .f32) : Vec F S1x2048 .f32 := View.ld w (Rect.unit (s := S4x2048) ![2, 0] S1x2048.size inb_S4x2048_S1x2048_2_0)
abbrev s3 (w : Vec F S4x2048 .f32) : Vec F S1x2048 .f32 := View.ld w (Rect.unit (s := S4x2048) ![3, 0] S1x2048.size inb_S4x2048_S1x2048_3_0)

variable (ids : Vec F S256x1 .i32) (x : Vec F S256x5120 .bf16) (w : Vec F S4x5120x2048 .fp8e4m3) (ws : Vec F S4x2048 .f32)

/-- The output block after each expert in turn, from what it held before. -/
def step0 (Y : Vec F S256x2048 .bf16) : Vec F S256x2048 .bf16 :=
  if hit (k0_pay11 (F := F) ids) = 1#1 then k0_pay12 ids (codesOf x) (w0 w) (scaleOf x) (s0 ws) Y else Y
def step1 (Y : Vec F S256x2048 .bf16) : Vec F S256x2048 .bf16 :=
  if hit (k0_pay14 (F := F) ids) = 1#1 then k0_pay15 ids (codesOf x) (w1 w) (scaleOf x) (s1 ws) Y else Y
def step2 (Y : Vec F S256x2048 .bf16) : Vec F S256x2048 .bf16 :=
  if hit (k0_pay17 (F := F) ids) = 1#1 then k0_pay18 ids (codesOf x) (w2 w) (scaleOf x) (s2 ws) Y else Y
def step3 (Y : Vec F S256x2048 .bf16) : Vec F S256x2048 .bf16 :=
  if hit (k0_pay2 (k0_pay9 (F := F) ids) 3#32) = 1#1 then k0_pay3 (k0_pay9 (F := F) ids) 3#32 (codesOf x) (w3 w) (scaleOf x) (s3 ws) Y else Y

/-- The output block after the body, from the input blocks and what it held before. -/
def outOf (Y : Vec F S256x2048 .bf16) : Vec F S256x2048 .bf16 :=
  step3 ids x w ws (step2 ids x w ws (step1 ids x w ws (step0 ids x w ws Y)))

set_option maxHeartbeats 4000000 in
/-- The body's triple: from the input blocks at `ids`, `x`, `w`, `ws` and the output block at `Y`, the body ends with the
    inputs as they were, the output block at `outOf … Y`, the codes and the scales at their values. -/
theorem sound_kernel (c : Dev nD) (E : Set ℕ) (i : grid0.Coords) (arg1 : Memref sig .tc .vmem S256x1 .i32) (harg1 : arg1.IsWhole) (arg2 : Memref sig .tc .vmem S256x5120 .bf16) (harg2 : arg2.IsWhole) (arg3 : Memref sig .tc .vmem S4x5120x2048 .fp8e4m3) (harg3 : arg3.IsWhole) (arg4 : Memref sig .tc .vmem S4x2048 .f32) (harg4 : arg4.IsWhole) (arg5 : Memref sig .tc .vmem S256x2048 .bf16) (harg5 : arg5.IsWhole) (arg6 : Memref sig .tc .vmem S256x5120 .fp8e4m3) (harg6 : arg6.IsWhole) (arg7 : Memref sig .tc .vmem S256x1 .f32) (harg7 : arg7.IsWhole)
    (Y : Vec F S256x2048 .bf16) (K : PUnit → sProp 𝕄) :
    iprop(owns (c : Thread nD τ) arg1 fullShare ids ∗ owns (c : Thread nD τ) arg2 fullShare x ∗ owns (c : Thread nD τ) arg3 fullShare w ∗ owns (c : Thread nD τ) arg4 fullShare ws ∗ owns (c : Thread nD τ) arg5 fullShare Y ∗ (∃ d, owns (c : Thread nD τ) arg6 fullShare d) ∗ (∃ d, owns (c : Thread nD τ) arg7 fullShare d)
        ∗ (iprop(owns (c : Thread nD τ) arg1 fullShare ids ∗ owns (c : Thread nD τ) arg2 fullShare x ∗ owns (c : Thread nD τ) arg3 fullShare w ∗ owns (c : Thread nD τ) arg4 fullShare ws ∗ owns (c : Thread nD τ) arg5 fullShare (outOf ids x w ws Y) ∗ owns (c : Thread nD τ) arg6 fullShare (codesOf x) ∗ owns (c : Thread nD τ) arg7 fullShare (scaleOf x)) -∗ K ⟨⟩))
      ⊢ wp frame (wpE (defs₀ (F := F)) Variants.none c none) E (cc0_dense_masked i arg1 harg1 arg2 harg2 arg3 harg3 arg4 harg4 arg5 harg5 arg6 harg6 arg7 harg7) K := by
  simp only [cc0_dense_masked_eq_skeleton]; unfold cc0_dense_masked_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    have e0 : View.readAt (Elt F) arg1.view (Rect.unit (s := S256x1) ![0, 0] S256x1.size inb_S256x1_S256x1_0_0).toLoadRect f1 = arg1.view.read (Elt F) f1 :=
      View.ld_unit_zero off2 _ _
    have e2 : View.readAt (Elt F) arg2.view (Rect.unit (s := S256x5120) ![0, 0] S256x5120.size inb_S256x5120_S256x5120_0_0).toLoadRect f2 = arg2.view.read (Elt F) f2 :=
      View.ld_unit_zero off2 _ _
    have e5 : ∀ f, View.readAt (Elt F) arg5.view (Rect.unit (s := S256x2048) ![0, 0] S256x2048.size inb_S256x2048_S256x2048_0_0).toLoadRect f = arg5.view.read (Elt F) f :=
      fun f => View.ld_unit_zero off2 _ _
    have hx : sound_kernel.sl.v89 c arg2 arg6 f2 = codesOf (arg2.view.read (Elt F) f2) := by
      refine (View.readCov_unit_zero _ off2 _ _).trans ?_
      unfold sound_kernel.sl.r_1
      rw [e2, codesOf]
    have hsc : sound_kernel.sl.v94 c arg2 arg7 f2 = scaleOf (arg2.view.read (Elt F) f2) := by
      refine (View.readCov_unit_zero _ off2 _ _).trans ?_
      unfold sound_kernel.sl.r
      rw [e2, scaleOf]
    have h0 : sound_kernel.sl.v58 c arg1 f1 = hit (k0_pay11 (F := F) (arg1.view.read (Elt F) f1)) := by
      rw [← e0]
      unfold hit sound_kernel.sl.v58 sound_kernel.sl.v57 sound_kernel.sl.v56 sound_kernel.sl.v55
      with_reducible rfl
    have h1 : sound_kernel.sl.v68 c arg1 f1 = hit (k0_pay14 (F := F) (arg1.view.read (Elt F) f1)) := by
      rw [← e0]
      unfold hit sound_kernel.sl.v68 sound_kernel.sl.v67 sound_kernel.sl.v66 sound_kernel.sl.v65
      with_reducible rfl
    have h2 : sound_kernel.sl.v78 c arg1 f1 = hit (k0_pay17 (F := F) (arg1.view.read (Elt F) f1)) := by
      rw [← e0]
      unfold hit sound_kernel.sl.v78 sound_kernel.sl.v77 sound_kernel.sl.v76 sound_kernel.sl.v75
      with_reducible rfl
    have hr : sound_kernel.sl.r_2 c arg1 f1 = k0_pay9 (F := F) (arg1.view.read (Elt F) f1) := by
      unfold sound_kernel.sl.r_2
      rw [e0]
    have hx1 : sound_kernel.sl.v89_1 c arg2 arg6 f2 = codesOf (arg2.view.read (Elt F) f2) := hx
    have hsc1 : sound_kernel.sl.v94_1 c arg2 arg7 f2 = scaleOf (arg2.view.read (Elt F) f2) := hsc
    have hA : sound_kernel.sl.v103 c arg1 arg2 arg3 arg4 arg5 arg6 arg7 f1 f2 f3 f4 f5 = step0 (arg1.view.read (Elt F) f1) (arg2.view.read (Elt F) f2) (arg3.view.read (Elt F) f3) (arg4.view.read (Elt F) f4) (arg5.view.read (Elt F) f5) := by
      refine (e5 _).trans ((read_guard _ _ _ off2 _ _).trans ?_)
      rw [h0, hx, hsc, e0, e5, step0]
      exact ite_congr rfl (fun _ => rfl) (fun _ => rfl)
    have hA' := (e5 _).symm.trans hA
    have hB : sound_kernel.sl.v103_1 c arg1 arg2 arg3 arg4 arg5 arg6 arg7 f1 f2 f3 f4 f5 = step1 (arg1.view.read (Elt F) f1) (arg2.view.read (Elt F) f2) (arg3.view.read (Elt F) f3) (arg4.view.read (Elt F) f4) (step0 (arg1.view.read (Elt F) f1) (arg2.view.read (Elt F) f2) (arg3.view.read (Elt F) f3) (arg4.view.read (Elt F) f4) (arg5.view.read (Elt F) f5)) := by
      refine (e5 _).trans ((read_guard _ _ _ off2 _ _).trans ?_)
      rw [hA', h1, hx, hsc, e0, hA, step1]
      exact ite_congr rfl (fun _ => rfl) (fun _ => rfl)
    have hB' := (e5 _).symm.trans hB
    have hC : sound_kernel.sl.v103_2 c arg1 arg2 arg3 arg4 arg5 arg6 arg7 f1 f2 f3 f4 f5 = step2 (arg1.view.read (Elt F) f1) (arg2.view.read (Elt F) f2) (arg3.view.read (Elt F) f3) (arg4.view.read (Elt F) f4) (step1 (arg1.view.read (Elt F) f1) (arg2.view.read (Elt F) f2) (arg3.view.read (Elt F) f3) (arg4.view.read (Elt F) f4) (step0 (arg1.view.read (Elt F) f1) (arg2.view.read (Elt F) f2) (arg3.view.read (Elt F) f3) (arg4.view.read (Elt F) f4) (arg5.view.read (Elt F) f5))) := by
      refine (e5 _).trans ((read_guard _ _ _ off2 _ _).trans ?_)
      rw [hB', h2, hx, hsc, e0, hB, step2]
      exact ite_congr rfl (fun _ => rfl) (fun _ => rfl)
    have hC' := (e5 _).symm.trans hC
    refine (read_guard _ _ _ off2 _ _).trans ?_
    rw [hC', hC, hx1, hsc1, hr, outOf, step3, hit]
    exact ite_congr rfl (fun _ => rfl) (fun _ => rfl)
  isplitl [H6]
  · iexists _; isplitr
    swap; · iexact H6
    ipureintro
    unfold sound_kernel.sl.H6_1
    refine (View.read_writes_eq_canon _ _ _ fun y => ⟨_, List.mem_singleton_self _, View.mem_set_unit_zero off2 inb_S256x5120_S256x5120_0_0 y⟩).trans ?_
    refine (View.canon_unit_zero off2 _ _).trans ?_
    exact congrArg codesOf (View.ld_unit_zero off2 _ _)
  iexists _; isplitr
  swap; · iexact H7
  ipureintro
  unfold sound_kernel.sl.H7_1
  refine (View.read_writes_eq_canon _ _ _ fun y => ⟨_, List.mem_singleton_self _, View.mem_set_unit_zero off2 inb_S256x1_S256x1_0_0 y⟩).trans ?_
  refine (View.canon_unit_zero off2 _ _).trans ?_
  exact congrArg scaleOf (View.ld_unit_zero off2 _ _)

end Cert.KernelIdeal.Body
end
-- ==== Proof.KernelIdealRun.lean ====
/-
  The kernel's run, for any floats `F`: what its three output arrays hold at the end, block by block, and that its argument
  arrays end unchanged.

  Window 4, the output block, is read by the body before anything was stored in it. What the body leaves there is therefore
  stated by a relation (`Rl`): it is `outOf` of the input blocks and of SOME contents. The other windows are stated exactly.
-/
module

public import proofs.«01_k».proof.Proof.KernelIdealBody
public import Idealize.ShloMosaic.Lib.Pipeline.DatRel

@[expose] public section

set_option maxRecDepth 16384

noncomputable section

namespace Cert.KernelIdeal.Run

open Cert.KernelIdeal Cert.KernelIdeal.Gen Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The exact proof data: every input block as its array holds it, the code and scale blocks at their values. What is said
    of window 4 is replaced by `Rl`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesOf (iblk m c 1 t)
    | ⟨6, _⟩ => scaleOf (iblk m c 1 t)
  Φ _ := Pipeline.ΦA spec0 c
  q _ := fullShare
  owed _ := 0

/-- The one window whose contents are stated by a relation: the output block. -/
def fgt (w : Fin cfg0.W) : Bool := match w with
  | ⟨4, _⟩ => true
  | _ => false

/-- What the body leaves in the output block: `outOf` of the input blocks and of some contents found there. -/
def Rl (c : Dev nD) (w : Fin cfg0.W) (t : Fin cfg0.N) (X : (cfg0.win w).block.Idx → Elt F (cfg0.win w).elt) : Prop :=
  match w, X with
  | ⟨4, _⟩, X => ∃ Y, X = outOf (iblk m c 0 t) (iblk m c 1 t) (iblk m c 2 t) (iblk m c 3 t) Y
  | ⟨0, _⟩, _ => True
  | ⟨1, _⟩, _ => True
  | ⟨2, _⟩, _ => True
  | ⟨3, _⟩, _ => True
  | ⟨5, _⟩, _ => True
  | ⟨6, _⟩, _ => True

/-- The relational proof data of the run. -/
def rdats (c : Dev nD) : RDat τ (Elt F) Unit ℕ (UR sig nD τ) ℕ cfg0 c := (dats m c).toRRel fgt (Rl m c)

theorem A_eq (c : Dev nD) (w : Fin cfg0.W) : (dats m c).A w = V m c (Pipeline.arrRef spec0 w) := by
  dsimp only [dats]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_5 (c : Dev nD) (t : Fin cfg0.N) : (dats m c).after 5 t = codesOf (iblk m c 1 t) := by dsimp only [dats]
theorem after_6 (c : Dev nD) (t : Fin cfg0.N) : (dats m c).after 6 t = scaleOf (iblk m c 1 t) := by dsimp only [dats]

/-- At every point each input's staging buffer holds its block. -/
theorem before_0 (c : Dev nD) (t : Fin cfg0.N) (d) : (dats m c).before 0 t d = iblk m c 0 t :=
  before0_0_of m (dats m c) (A_eq m c 0) (after_0 m c) t d
theorem before_1 (c : Dev nD) (t : Fin cfg0.N) (d) : (dats m c).before 1 t d = iblk m c 1 t :=
  before0_1_of m (dats m c) (A_eq m c 1) (after_1 m c) t d
theorem before_2 (c : Dev nD) (t : Fin cfg0.N) (d) : (dats m c).before 2 t d = iblk m c 2 t :=
  before0_2_of m (dats m c) (A_eq m c 2) (after_2 m c) t d
theorem before_3 (c : Dev nD) (t : Fin cfg0.N) (d) : (dats m c).before 3 t d = iblk m c 3 t :=
  before0_3_of m (dats m c) (A_eq m c 3) (after_3 m c) t d

/-- What the body is called with at a point, window by window. -/
def bodyPre (c : Dev nD) (t : Fin cfg0.N) : sProp 𝕄 :=
  iprop((dats m c).Φ t.castSucc ∗ (dats m c).owesAt () t.castSucc
    ∗ (∃ d, owns (c : Thread nD τ) (st0_0 t) fullShare ((dats m c).before 0 t d))
    ∗ (∃ d, owns (c : Thread nD τ) (st0_1 t) fullShare ((dats m c).before 1 t d))
    ∗ (∃ d, owns (c : Thread nD τ) (st0_2 t) fullShare ((dats m c).before 2 t d))
    ∗ (∃ d, owns (c : Thread nD τ) (st0_3 t) fullShare ((dats m c).before 3 t d))
    ∗ (∃ Y, ⌜((dats m c).toRRel fgt (Rl m c)).Finds 4 t Y⌝ ∗ owns (c : Thread nD τ) (st0_4 t) fullShare Y)
    ∗ (∃ d, owns (c : Thread nD τ) (st0_5 t) fullShare ((dats m c).before 5 t d))
    ∗ (∃ d, owns (c : Thread nD τ) (st0_6 t) fullShare ((dats m c).before 6 t d)))

/-- and what it returns. -/
def bodyPost (c : Dev nD) (t : Fin cfg0.N) : sProp 𝕄 :=
  iprop((dats m c).Φ t.succ ∗ (dats m c).owesAt () t.succ
    ∗ owns (c : Thread nD τ) (st0_0 t) fullShare ((dats m c).after 0 t)
    ∗ owns (c : Thread nD τ) (st0_1 t) fullShare ((dats m c).after 1 t)
    ∗ owns (c : Thread nD τ) (st0_2 t) fullShare ((dats m c).after 2 t)
    ∗ owns (c : Thread nD τ) (st0_3 t) fullShare ((dats m c).after 3 t)
    ∗ (∃ X, ⌜∃ Y, X = outOf (iblk m c 0 t) (iblk m c 1 t) (iblk m c 2 t) (iblk m c 3 t) Y⌝ ∗ owns (c : Thread nD τ) (st0_4 t) fullShare X)
    ∗ owns (c : Thread nD τ) (st0_5 t) fullShare ((dats m c).after 5 t)
    ∗ owns (c : Thread nD τ) (st0_6 t) fullShare ((dats m c).after 6 t))

/-- The body at any point, from its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m c).Φ t.succ = (dats m c).Φ t.castSucc from rfl,
    show (dats m c).owesAt () t.succ = (dats m c).owesAt () t.castSucc from rfl,
    after_0, after_1, after_2, after_3, after_5, after_6]
  iintro ⟨HΦ, Ho, ⟨%d0, H0⟩, ⟨%d1, H1⟩, ⟨%d2, H2⟩, ⟨%d3, H3⟩, ⟨%Y, -, H4⟩, ⟨%d5, H5⟩, ⟨%d6, H6⟩⟩
  iapply (sound_kernel (iblk m c 0 t) (iblk m c 1 t) (iblk m c 2 t) (iblk m c 3 t) c Set.univ _ _ _ _ _ _ _ _ _ _ _ _ _ _ _ Y _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists _; isplitr
    swap; · iexact H4
    ipureintro; exact ⟨Y, rfl⟩
  isplitl [H5]; · iexact H5
  iexact H6

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point, the output block held to `Rl`. -/
theorem body_obligation_rel (c : Dev nD) :
    BodyObligationRel (dats m c) (defs₀ (F := F)) Variants.none () Set.univ fgt (Rl m c) := fun t => by
  rw [bigSep_W0, bigSep_W0, defs₀_row]
  exact triple_restated (sound_body m c t) rfl .rfl fun _ => .rfl

theorem body_obligation (c : Dev nD) :
    (rdats m c).BodyObligation (defs₀ (F := F)) Variants.none () Set.univ := (body_obligation_rel m c).toRRel

theorem rdats_A (c : Dev nD) : (rdats m c).A = (dats m c).A := (dats m c).toRRel_A
theorem rdats_Φ (c : Dev nD) : (rdats m c).Φ = (dats m c).Φ := (dats m c).toRRel_Φ
theorem rdats_owed (c : Dev nD) : (rdats m c).owed = (dats m c).owed := (dats m c).toRRel_owed
theorem rdats_share (c : Dev nD) (w : Fin cfg0.W) : (rdats m c).share w = fullShare := by
  have h : (rdats m c).share = (dats m c).share := (dats m c).toRRel_share
  rw [h]; exact (dats m c).share_full (fun _ => rfl) w

set_option backward.isDefEq.respectTransparency.types false in
set_option maxHeartbeats 800000 in
/-- The launch: from any memory with zero counters every weakly fair execution of the kernel terminates, and every final
    state has every array at what the proof data allow, every other buffer as the region found it, and the counters zero. -/
theorem run_quiescent : θ_run defs (onTc (τ := τ) (main (F := F))) (s₀ m ρ)
    (fun r => RDat.FramePost cfg0 (rdats m) (V m) r ∧ r.2.sem = fun _ => 0) :=
  RDat.θ_run_frame (Q' := _) cfgs (0 : Fin 1) launch0 defs₀ Variants.none (rdats m) m ρ main
    (hbody := body_obligation m) (hshare := rdats_share m)
    (howed := fun c t => by rw [rdats_owed]; rfl) (V := V m) (hmain := hmain m Variants.none)
    (hA := fun c w => by rw [rdats_A]; exact A_eq m c w) (hΦ := fun c t => by rw [rdats_Φ]; rfl)

/-- What a final state says of the argument arrays: each ends as it began. -/
theorem args_of {r : PUnit × MemSt nD τ sig (Elt F)} (h : RDat.FramePost cfg0 (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hA : ∀ w, (rdats m c).A w = V m c (Pipeline.arrRef spec0 w) := fun w => by rw [rdats_A]; exact A_eq m c w
  exact ⟨(RDat.FramePost.arr_in h c 1 rfl).trans ((hA 1).trans (V_main_arg0 m c)),
    ((h c).2 main_arg1 (Pipeline.mem_restRefs_of main_arg1 (by decide) (by decide))).trans (V_main_arg1 m c),
    (RDat.FramePost.arr_in h c 2 rfl).trans ((hA 2).trans (V_main_arg2 m c)),
    (RDat.FramePost.arr_in h c 3 rfl).trans ((hA 3).trans (V_main_arg3 m c))⟩

/-- The frame: the argument arrays end unchanged and every counter of the machine is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_of m h.1 c, h.2⟩) (run_quiescent m ρ)

end Cert.KernelIdeal.Run
end
-- ==== Proof.Scale.lean ====
/-
  The power-of-two scale of one row, on extended reals. The kernel finds the scale's exponent as a 32-bit word, the largest `k`
  whose float with exponent field `k` does not exceed the row's value, and makes the scale and its inverse from exponent fields;
  the reference finds the exponent as a number, the least `e` for which the row's value is below `2 ^ e`, and makes them with `exp2`.
  This file states both and proves them equal, for a row value below `2 ^ 126` or infinite.
-/
module

public import Idealize.ShloMosaic.PureOps.Ideal
public import Idealize.ShloMosaic.Lib.SortNet.Extract

@[expose] public section

set_option maxRecDepth 16384

noncomputable section

namespace Cert.Scale

open Idealize.ShloMosaic

/-- The float whose exponent field is `k` and whose other bits are zero. -/
abbrev pow (k : BitVec 32) : EReal := Ideal.ofBits .f32 (IntOp.shli .vector k 23#32)

/-- The largest `k` below 256 with `pow k ≤ r`, as the kernel folds it. -/
def field (r : EReal) : BitVec 32 :=
  Finset.fold IntOp.maxsi 2147483648#32 (fun k : Fin 256 => if pow (BitVec.ofNat 32 ↑k) ≤ r then BitVec.ofNat 32 ↑k else 0#32) Finset.univ

/-- The kernel's exponent field: 126 in place of the field of a value below every normal float, or of an infinity. -/
def kfield (r : EReal) : BitVec 32 :=
  Scalar.select (IntOp.ori (IntOp.cmpi .eq (field r) 0#32) (IntOp.cmpi .eq (field r) 255#32)) 126#32 (field r)

/-- The bits of the float with exponent field `k`: sign, exponent and fraction. -/
theorem bits (k : Fin 256) :
    (IntOp.shli .vector (BitVec.ofNat 32 ↑k) 23#32).extractLsb' 31 1 = 0#1
      ∧ ((IntOp.shli .vector (BitVec.ofNat 32 ↑k) 23#32).extractLsb' 23 8).toNat = k
      ∧ ((IntOp.shli .vector (BitVec.ofNat 32 ↑k) 23#32).extractLsb' 0 23).toNat = 0 := by
  revert k; decide +kernel

/-- The float with exponent field 0 is zero. -/
theorem pow_zero : pow 0#32 = 0 := by
  obtain ⟨h1, h2, h3⟩ := bits 0
  have e : BitVec.ofNat 32 ↑(0 : Fin 256) = 0#32 := rfl
  rw [e] at h1 h2 h3
  unfold pow Ideal.ofBits Ideal.ieee
  simp only [h1, h2, h3]
  simp

/-- The float with exponent field 255 is infinity. -/
theorem pow_top : pow 255#32 = ⊤ := by
  obtain ⟨h1, h2, h3⟩ := bits 255
  have e : BitVec.ofNat 32 ↑(255 : Fin 256) = 255#32 := rfl
  rw [e] at h1 h2 h3
  unfold pow Ideal.ofBits Ideal.ieee
  simp only [h1, h2, h3]
  simp

/-- The float with exponent field `k`, `1 ≤ k ≤ 254`, is `2 ^ (k - 127)`. -/
theorem pow_of (k : ℕ) (h0 : 1 ≤ k) (h : k ≤ 254) : pow (BitVec.ofNat 32 k) = (((2 : ℝ) ^ ((k : ℤ) - 127) : ℝ) : EReal) := by
  obtain ⟨h1, h2, h3⟩ := bits ⟨k, by omega⟩
  simp only at h1 h2 h3
  unfold pow Ideal.ofBits Ideal.ieee
  simp only [h1, h2, h3]
  rw [if_neg (by omega), if_neg (by omega)]
  refine congrArg (fun z : ℝ => (z : EReal)) ?_
  have e : (((2 ^ 23 + 0 : ℕ) : ℝ)) = (2 : ℝ) ^ (23 : ℤ) := by norm_num
  rw [e, if_neg (by decide), one_mul, ← zpow_add₀ (by norm_num : (2 : ℝ) ≠ 0)]
  refine congrArg (fun z : ℤ => (2 : ℝ) ^ z) ?_
  push_cast
  omega

/-- A word met by the fold bounds it: the fold is the number that is one of the words and at least every word. -/
theorem field_eq (r : EReal) (n : ℕ) (hn : n < 256) (hle : pow (BitVec.ofNat 32 n) ≤ r ∨ n = 0)
    (hgt : ∀ k : ℕ, n < k → k < 256 → ¬ pow (BitVec.ofNat 32 k) ≤ r) : field r = BitVec.ofNat 32 n := by
  have key := SortNet.fold_maxsi_spec (fun k : Fin 256 => if pow (BitVec.ofNat 32 ↑k) ≤ r then BitVec.ofNat 32 ↑k else 0#32)
    Finset.univ 2147483648#32
  have ti : ∀ k : ℕ, k < 256 → (BitVec.ofNat 32 k).toInt = k := fun k hk => by
    rw [BitVec.toInt_eq_toNat_of_lt] <;> simp [BitVec.toNat_ofNat] <;> omega
  have h0 : (0#32).toInt = 0 := by decide
  obtain ⟨_, h2, h3⟩ := key
  have hmin : (2147483648#32).toInt < 0 := by decide
  have hge := h2 ⟨n, hn⟩ (Finset.mem_univ _)
  change (if pow (BitVec.ofNat 32 n) ≤ r then BitVec.ofNat 32 n else 0#32).toInt ≤ (field r).toInt at hge
  have hge' : (n : ℤ) ≤ (field r).toInt := by
    rcases hle with h | h
    · rwa [if_pos h, ti n hn] at hge
    · subst h; split at hge <;> simpa using hge
  apply BitVec.eq_of_toInt_eq
  rw [ti n hn]
  refine le_antisymm ?_ hge'
  rcases h3 with h3 | ⟨k, -, h3⟩
  · have : (field r).toInt = (2147483648#32).toInt := congrArg BitVec.toInt h3
    omega
  · have h3' : (field r).toInt = (if pow (BitVec.ofNat 32 ↑k) ≤ r then BitVec.ofNat 32 ↑k else 0#32).toInt := congrArg BitVec.toInt h3
    rw [h3']
    split
    · rename_i hk
      rw [ti _ k.isLt]
      by_contra hc
      exact hgt k (by omega) k.isLt hk
    · omega

/-- The reference's exponent: the least `e` with `r < 2 ^ e`, and 0 for a value below every normal float, or an infinity. -/
def rexp (r : EReal) : EReal :=
  Scalar.select (IntOp.ori (BitVec.ofBool (decide (r < Ideal.ofBits .f32 8388608#32))) (BitVec.ofBool (decide (r = Ideal.ofBits .f32 2139095040#32)))) 0
    (Finset.fold min (Ideal.ofBits .f32 2139095040#32)
      (fun k : Fin 256 => if r < Ideal.exp2 (((IntOp.subi (BitVec.ofNat 32 ↑k) 127#32).toInt : ℝ) : EReal)
        then (((IntOp.subi (BitVec.ofNat 32 ↑k) 127#32).toInt : ℝ) : EReal) else Ideal.ofBits .f32 2139095040#32) Finset.univ)

theorem tiny : Ideal.ofBits .f32 8388608#32 = (((2 : ℝ) ^ (-126 : ℤ) : ℝ) : EReal) := by
  have h := pow_of 1 (by omega) (by omega)
  exact h

theorem inf : Ideal.ofBits .f32 2139095040#32 = (⊤ : EReal) := pow_top

/-- `exp2` at an integer. -/
theorem exp2_int (z : ℤ) : Ideal.exp2 (((z : ℤ) : ℝ) : EReal) = (((2 : ℝ) ^ z : ℝ) : EReal) := by
  rw [Ideal.exp2_coe]
  exact congrArg _ (Real.rpow_intCast 2 z)

theorem sub_int (k : Fin 256) : (IntOp.subi (BitVec.ofNat 32 ↑k) 127#32).toInt = (k : ℤ) - 127 := by
  revert k; decide +kernel

/-- The reference's exponent of `r` in `[2 ^ (n - 127), 2 ^ (n - 126))`. -/
theorem rexp_eq (r : EReal) (n : ℕ) (h0 : 1 ≤ n) (hn : n ≤ 252) (hle : (((2 : ℝ) ^ ((n : ℤ) - 127) : ℝ) : EReal) ≤ r)
    (hlt : r < (((2 : ℝ) ^ ((n : ℤ) - 126) : ℝ) : EReal)) : rexp r = ((((n : ℤ) - 126 : ℤ) : ℝ) : EReal) := by
  unfold rexp
  have c1 : ¬ r < Ideal.ofBits .f32 8388608#32 := by
    rw [tiny, not_lt]
    refine le_trans (EReal.coe_le_coe_iff.mpr (zpow_le_zpow_right₀ (by norm_num) (by omega))) hle
  have c2 : ¬ r = Ideal.ofBits .f32 2139095040#32 := by
    rw [inf]; exact (lt_of_lt_of_le hlt le_top).ne
  rw [decide_eq_false c1, decide_eq_false c2]
  rw [show ∀ a b : EReal, Scalar.select (IntOp.ori (BitVec.ofBool false) (BitVec.ofBool false)) a b = b from fun _ _ => rfl]
  rw [inf]
  apply le_antisymm
  · have h := ((Finset.le_fold_min (s := Finset.univ) (b := (⊤ : EReal)) (f := fun k : Fin 256 => if r < Ideal.exp2 (((IntOp.subi (BitVec.ofNat 32 ↑k) 127#32).toInt : ℝ) : EReal)
        then (((IntOp.subi (BitVec.ofNat 32 ↑k) 127#32).toInt : ℝ) : EReal) else ⊤)
      (Finset.fold min (⊤ : EReal) (fun k : Fin 256 => if r < Ideal.exp2 (((IntOp.subi (BitVec.ofNat 32 ↑k) 127#32).toInt : ℝ) : EReal)
        then (((IntOp.subi (BitVec.ofNat 32 ↑k) 127#32).toInt : ℝ) : EReal) else ⊤) Finset.univ)).mp le_rfl).2 ⟨n + 1, by omega⟩ (Finset.mem_univ _)
    rw [sub_int, exp2_int] at h
    have e : (((⟨n + 1, by omega⟩ : Fin 256) : ℕ) : ℤ) - 127 = (n : ℤ) - 126 := by push_cast; omega
    rw [e, if_pos hlt] at h
    exact h
  · rw [Finset.le_fold_min]
    refine ⟨le_top, fun k _ => ?_⟩
    rw [sub_int, exp2_int]
    split
    · rename_i hk
      have := lt_of_le_of_lt hle hk
      rw [EReal.coe_lt_coe_iff, zpow_lt_zpow_iff_right₀ (by norm_num)] at this
      rw [EReal.coe_le_coe_iff]
      exact_mod_cast (by omega : (n : ℤ) - 126 ≤ (k : ℤ) - 127)
    · exact le_top

/-- A row value the scales agree on: infinite, or below `2 ^ 126`. -/
def Ok (r : EReal) : Prop := r = ⊤ ∨ r < (((2 : ℝ) ^ (126 : ℤ) : ℝ) : EReal)

/-- What the two exponents are: both the default, or both those of the power of two above the row's value. -/
theorem exponents (r : EReal) (h : Ok r) :
    (kfield r = 126#32 ∧ rexp r = 0)
      ∨ ∃ n : ℕ, 1 ≤ n ∧ n ≤ 252 ∧ kfield r = BitVec.ofNat 32 n ∧ rexp r = ((((n : ℤ) - 126 : ℤ) : ℝ) : EReal) := by
  rcases h with h | h
  · left
    subst h
    have f : field ⊤ = BitVec.ofNat 32 255 := field_eq ⊤ 255 (by omega) (Or.inl le_top) (fun k h1 h2 => by omega)
    refine ⟨by unfold kfield; rw [f]; decide, ?_⟩
    unfold rexp
    rw [decide_eq_true (inf.symm : (⊤ : EReal) = Ideal.ofBits .f32 2139095040#32)]
    generalize decide ((⊤ : EReal) < Ideal.ofBits .f32 8388608#32) = b
    cases b <;> rfl
  · by_cases ht : r < (((2 : ℝ) ^ (-126 : ℤ) : ℝ) : EReal)
    · left
      have f : field r = BitVec.ofNat 32 0 := field_eq r 0 (by omega) (Or.inr rfl) (fun k h1 h2 => by
        rw [not_le]
        by_cases hk : k = 255
        · subst hk; exact lt_of_lt_of_le ht (by rw [show BitVec.ofNat 32 255 = 255#32 from rfl, pow_top]; exact le_top)
        · rw [pow_of k (by omega) (by omega)]
          exact lt_of_lt_of_le ht (EReal.coe_le_coe_iff.mpr (zpow_le_zpow_right₀ (by norm_num) (by omega))))
      refine ⟨by unfold kfield; rw [f]; decide, ?_⟩
      unfold rexp
      rw [decide_eq_true (tiny ▸ ht : r < Ideal.ofBits .f32 8388608#32)]
      generalize decide (r = Ideal.ofBits .f32 2139095040#32) = b
      cases b <;> rfl
    · right
      rw [not_lt] at ht
      -- the power of two just below `r`
      have hx : ∃ n : ℕ, 1 ≤ n ∧ n ≤ 252 ∧ (((2 : ℝ) ^ ((n : ℤ) - 127) : ℝ) : EReal) ≤ r ∧ r < (((2 : ℝ) ^ ((n : ℤ) - 126) : ℝ) : EReal) := by
        by_contra hc
        push Not at hc
        have all : ∀ n : ℕ, n ≤ 252 → (((2 : ℝ) ^ ((n : ℤ) - 126) : ℝ) : EReal) ≤ r := by
          intro n
          induction n with
          | zero => intro _; simpa using ht
          | succ n ih =>
            intro hn
            have := hc (n + 1) (by omega) hn
            refine this ?_
            have h' := ih (by omega)
            rwa [show ((n + 1 : ℕ) : ℤ) - 127 = (n : ℤ) - 126 by push_cast; omega]
        have := all 252 le_rfl
        exact absurd h (not_lt.mpr (by simpa using this))
      obtain ⟨n, h0, hn, hle, hlt⟩ := hx
      have f : field r = BitVec.ofNat 32 n := field_eq r n (by omega) (Or.inl (by rw [pow_of n h0 (by omega)]; exact hle)) (fun k h1 h2 => by
        rw [not_le]
        by_cases hk : k = 255
        · subst hk; rw [show BitVec.ofNat 32 255 = 255#32 from rfl, pow_top]; exact lt_of_lt_of_le hlt le_top
        · rw [pow_of k (by omega) (by omega)]
          exact lt_of_lt_of_le hlt (EReal.coe_le_coe_iff.mpr (zpow_le_zpow_right₀ (by norm_num) (by omega))))
      refine ⟨n, h0, hn, ?_, rexp_eq r n h0 hn hle hlt⟩
      unfold kfield
      rw [f]
      have n1 : BitVec.ofNat 32 n ≠ 0#32 := fun e => by
        have := congrArg BitVec.toNat e; simp [BitVec.toNat_ofNat] at this; omega
      have n2 : BitVec.ofNat 32 n ≠ 255#32 := fun e => by
        have := congrArg BitVec.toNat e; simp [BitVec.toNat_ofNat] at this; omega
      unfold IntOp.cmpi
      simp only [beq_eq_false_iff_ne.mpr n1, beq_eq_false_iff_ne.mpr n2]
      rfl

/-- The kernel's scale is the reference's. -/
theorem scale_eq (r : EReal) (h : Ok r) : pow (IntOp.addi (kfield r) 1#32) = Ideal.exp2 (rexp r) := by
  rcases exponents r h with ⟨h1, h2⟩ | ⟨n, h0, hn, h1, h2⟩
  · rw [h1, h2, show IntOp.addi 126#32 1#32 = BitVec.ofNat 32 127 from rfl, pow_of 127 (by omega) (by omega)]
    have := exp2_int 0
    simpa using this.symm
  · rw [h1, h2, exp2_int, show IntOp.addi (BitVec.ofNat 32 n) 1#32 = BitVec.ofNat 32 (n + 1) by
      unfold IntOp.addi; rw [BitVec.ofNat_add], pow_of (n + 1) (by omega) (by omega)]
    congr 2; push_cast; omega

/-- The kernel's inverse scale is the reference's. -/
theorem inv_eq (r : EReal) (h : Ok r) : pow (IntOp.subi 253#32 (kfield r)) = Ideal.exp2 (0 - rexp r) := by
  rcases exponents r h with ⟨h1, h2⟩ | ⟨n, h0, hn, h1, h2⟩
  · rw [h1, h2, show IntOp.subi 253#32 126#32 = BitVec.ofNat 32 127 from rfl, pow_of 127 (by omega) (by omega)]
    have := exp2_int 0
    simpa using this.symm
  · have e : (0 : EReal) - ((((n : ℤ) - 126 : ℤ) : ℝ) : EReal) = (((126 - (n : ℤ) : ℤ) : ℝ) : EReal) := by
      rw [zero_sub, ← EReal.coe_neg]
      congr 1; push_cast; ring
    have s : IntOp.subi 253#32 (BitVec.ofNat 32 n) = BitVec.ofNat 32 (253 - n) := by
      apply BitVec.eq_of_toNat_eq
      unfold IntOp.subi
      simp only [BitVec.toNat_sub, BitVec.toNat_ofNat]
      omega
    rw [h1, h2, e, exp2_int, s, pow_of (253 - n) (by omega) (by omega)]
    congr 2; omega

/-- One row's value: its greatest absolute value times 1/448 (as the float nearest to that). -/
def row {n : ℕ} (f : Fin n → EReal) : EReal :=
  Finset.fold max ⊥ (fun j => max (f j) (-(f j))) Finset.univ * Ideal.ofBits .f32 991054117#32

theorem bf16_bot : Ideal.ofBits .bf16 65408#16 = (⊥ : EReal) := by simp [Ideal.ofBits, Ideal.ieee]
theorem f32_zero : Ideal.ofBits .f32 0#32 = (0 : EReal) := by simp [Ideal.ofBits, Ideal.ieee]
theorem f32_bot : Ideal.ofBits .f32 4286578688#32 = (⊥ : EReal) := by simp [Ideal.ofBits, Ideal.ieee]

/-- The factor 1/448, as a real number. -/
theorem factor : Ideal.ofBits .f32 991054117#32 = (((9586981 : ℝ) * (2 : ℝ) ^ (-32 : ℤ) : ℝ) : EReal) := by
  simp [Ideal.ofBits, Ideal.ieee]

/-- The greatest finite `bf16`. -/
theorem bf16_max : Ideal.ofBits .bf16 32639#16 = (((255 : ℝ) * (2 : ℝ) ^ (120 : ℤ) : ℝ) : EReal) := by
  simp [Ideal.ofBits, Ideal.ieee]

/-- A row of `bf16` numbers and infinities has a value the scales agree on. -/
theorem row_ok {n : ℕ} (f : Fin n → EReal)
    (h : ∀ j, max (f j) (-(f j)) ≤ Ideal.ofBits .bf16 32639#16 ∨ max (f j) (-(f j)) = ⊤) : Ok (row f) := by
  unfold row
  rw [factor]
  have hc : (0 : ℝ) < 9586981 * (2 : ℝ) ^ (-32 : ℤ) := by positivity
  by_cases ht : ∃ j, max (f j) (-(f j)) = ⊤
  · left
    obtain ⟨j, hj⟩ := ht
    have e : Finset.fold max ⊥ (fun j => max (f j) (-(f j))) Finset.univ = (⊤ : EReal) := by
      rw [eq_top_iff, ← hj]
      exact (Finset.le_fold_max _).mpr (Or.inr ⟨j, Finset.mem_univ _, le_rfl⟩)
    rw [e]
    exact EReal.top_mul_coe_of_pos hc
  · right
    have e : Finset.fold max ⊥ (fun j => max (f j) (-(f j))) Finset.univ ≤ (((255 : ℝ) * (2 : ℝ) ^ (120 : ℤ) : ℝ) : EReal) := by
      rw [Finset.fold_max_le]
      refine ⟨bot_le, fun j _ => ?_⟩
      rw [← bf16_max]
      exact (h j).resolve_right fun hj => ht ⟨j, hj⟩
    refine lt_of_le_of_lt (mul_le_mul_of_nonneg_right e (EReal.coe_nonneg.mpr hc.le)) ?_
    rw [← EReal.coe_mul, EReal.coe_lt_coe_iff]
    norm_num

/-! ## One row of the three results -/

/-- The row's scale. -/
def scale {n : ℕ} (f : Fin n → EReal) : EReal := Ideal.exp2 (rexp (row f))

/-- The row's codes: its elements times the inverse scale, clipped to ±448. -/
def code {n : ℕ} (f : Fin n → EReal) (k : Fin n) : EReal :=
  min (Ideal.ofBits .f32 1138753536#32) (max (Ideal.ofBits .f32 3286237184#32) (f k * Ideal.exp2 (0 - rexp (row f))))

/-- The entry of four that the number `b` names, and `z` for a number that names none. -/
def pick (b : BitVec 32) (a : Fin 4 → EReal) (z : EReal) : EReal :=
  Scalar.select (IntOp.cmpi .eq b 3#32) (a 3) (Scalar.select (IntOp.cmpi .eq b 2#32) (a 2)
    (Scalar.select (IntOp.cmpi .eq b 1#32) (a 1) (Scalar.select (IntOp.cmpi .eq b 0#32) (a 0) z)))

/-- One element of the token's output: its codes' product with a column of the matrix of the expert that `b` names, times the
    row's scale, times that expert's scale of the column. -/
def out {n : ℕ} (f : Fin n → EReal) (b : BitVec 32) (w : Fin 4 → Fin n → EReal) (ws : Fin 4 → EReal) : EReal :=
  pick b (fun e => ∑ k, code f k * w e k) 0 * scale f * pick b ws 0

end Cert.Scale
-- ==== Proof.Reads.lean ====
/-
  How a column and a row broadcast to a matrix, and a matrix reduced along its rows, read at an index, at any extent.
-/
module

public import proofs.«01_k».proof.Proof.Scale
public import Idealize.ShloMosaic.Lib.Pointwise
public import Idealize.ShloMosaic.Lib.Pipeline.Value

@[expose] public section

namespace Cert.Reads

open Idealize.ShloMosaic

/-- A column broadcast to a matrix, at an index. -/
theorem bc_col {α : Type} {R C : ℕ} (hR : R ≠ 1) (v : (⟨2, ![R, 1]⟩ : Shape).Idx → α) (h : (⟨2, ![R, 1]⟩ : Shape).Broadcasts ⟨2, ![R, C]⟩)
    (p : Fin R) (q : Fin C) : broadcastTo (⟨2, ![R, C]⟩ : Shape) v h (ix2 p q) = v (ix2 p 0) := by
  refine broadcastTo_apply v h (ix2 p q) (ix2 p 0) fun a => ?_
  match a with
  | ⟨0, _⟩ => exact (if_neg hR).symm
  | ⟨1, _⟩ => rfl

/-- A row broadcast to a matrix, at an index. -/
theorem bc_row {α : Type} {R C : ℕ} (hC : C ≠ 1) (v : (⟨2, ![1, C]⟩ : Shape).Idx → α) (h : (⟨2, ![1, C]⟩ : Shape).Broadcasts ⟨2, ![R, C]⟩)
    (p : Fin R) (q : Fin C) : broadcastTo (⟨2, ![R, C]⟩ : Shape) v h (ix2 p q) = v (ix2 0 q) := by
  refine broadcastTo_apply v h (ix2 p q) (ix2 0 q) fun a => ?_
  match a with
  | ⟨0, _⟩ => rfl
  | ⟨1, _⟩ => exact (if_neg hC).symm

/-- A vector cast to a column, at an index. -/
theorem col_cast {α : Type} {R : ℕ} (v : (⟨1, ![R]⟩ : Shape).Idx → α) (hs : Shape.ShapeCasts ⟨1, ![R]⟩ ⟨2, ![R, 1]⟩) (p : Fin R) :
    shapeCast (⟨2, ![R, 1]⟩ : Shape) v hs (ix2 p 0) = v (ix1 p) := by
  refine shapeCast_apply v hs (ix2 p 0) (ix1 p) ?_
  rw [Shape.rowMajor_val_one, Shape.rowMajor_val_two]
  show (p : ℕ) = p * 1 + 0
  omega

/-- A maximum along a matrix's rows, cast to a column, at an index. -/
theorem row_max {φ : FTy} {R C : ℕ} (src : FVec Ideal ⟨2, ![R, C]⟩ φ) (acc : BitVec φ.bits)
    (h : Shape.Reduces ⟨2, ![R, C]⟩ [1] ⟨1, ![R]⟩) (hφ : FKind.Formats φ) (hacc : acc = FKind.maximumf.neutral φ hφ)
    (hs : Shape.ShapeCasts ⟨1, ![R]⟩ ⟨2, ![R, 1]⟩) (p : Fin R) :
    shapeCast (⟨2, ![R, 1]⟩ : Shape) (multiReduction .maximumf [1] ⟨1, ![R]⟩ src acc h hφ hacc) hs (ix2 p 0)
      = Finset.fold max (Ideal.ofBits φ acc) (fun j : Fin C => src (ix2 p j)) Finset.univ := by
  rw [col_cast]
  pointwise

/-- A minimum along a matrix's rows, cast to a column, at an index. -/
theorem row_min {φ : FTy} {R C : ℕ} (src : FVec Ideal ⟨2, ![R, C]⟩ φ) (acc : BitVec φ.bits)
    (h : Shape.Reduces ⟨2, ![R, C]⟩ [1] ⟨1, ![R]⟩) (hφ : FKind.Formats φ) (hacc : acc = FKind.minimumf.neutral φ hφ)
    (hs : Shape.ShapeCasts ⟨1, ![R]⟩ ⟨2, ![R, 1]⟩) (p : Fin R) :
    shapeCast (⟨2, ![R, 1]⟩ : Shape) (multiReduction .minimumf [1] ⟨1, ![R]⟩ src acc h hφ hacc) hs (ix2 p 0)
      = Finset.fold min (Ideal.ofBits φ acc) (fun j : Fin C => src (ix2 p j)) Finset.univ := by
  rw [col_cast]
  pointwise

/-- A signed maximum along a matrix's rows, cast to a column, at an index. -/
theorem row_maxsi {R C : ℕ} (src : IVec ⟨2, ![R, C]⟩ 32) (acc : BitVec 32)
    (h : Shape.Reduces ⟨2, ![R, C]⟩ [1] ⟨1, ![R]⟩) (hacc : acc = IKind.maxsi.neutral)
    (hs : Shape.ShapeCasts ⟨1, ![R]⟩ ⟨2, ![R, 1]⟩) (p : Fin R) :
    shapeCast (⟨2, ![R, 1]⟩ : Shape) (multiReductionI .maxsi [1] ⟨1, ![R]⟩ src acc h hacc) hs (ix2 p 0)
      = Finset.fold IntOp.maxsi acc (fun j : Fin C => src (ix2 p j)) Finset.univ := by
  rw [col_cast]
  pointwise

/-- The row value from which a row's exponent is read: its largest magnitude times 1/448, the maximum taken before the widening. -/
theorem row_narrow {R C : ℕ} (x : FVec Ideal ⟨2, ![R, C]⟩ .bf16) (h : Shape.Reduces ⟨2, ![R, C]⟩ [1] ⟨1, ![R]⟩) (hφ : FKind.Formats .bf16)
    (hacc : 0xFF80#16 = FKind.maximumf.neutral .bf16 hφ) (hs : Shape.ShapeCasts ⟨1, ![R]⟩ ⟨2, ![R, 1]⟩) (hb : FTy.bf16.bits < FTy.f32.bits) (p : Fin R) :
    mulf (F := Ideal) (extf .f32 (shapeCast ⟨2, ![R, 1]⟩ (multiReduction .maximumf [1] ⟨1, ![R]⟩ (absf x) 0xFF80#16 h hφ hacc) hs) hb)
      (broadcast ⟨2, ![R, 1]⟩ (Scalar.ofBits .f32 0x3B124925#32)) (ix2 p 0) = Scale.row fun j : Fin C => x (ix2 p j) := by
  have hm := row_max (absf x) 0xFF80#16 h hφ hacc hs p
  rw [Scale.bf16_bot] at hm
  exact congrArg (fun z : EReal => z * Ideal.ofBits .f32 0x3B124925#32) hm

/-- … and the maximum taken after the widening. -/
theorem row_wide {R C : ℕ} (x : FVec Ideal ⟨2, ![R, C]⟩ .bf16) (h : Shape.Reduces ⟨2, ![R, C]⟩ [1] ⟨1, ![R]⟩) (hφ : FKind.Formats .f32)
    (hacc : 0xFF800000#32 = FKind.maximumf.neutral .f32 hφ) (hs : Shape.ShapeCasts ⟨1, ![R]⟩ ⟨2, ![R, 1]⟩) (hb : FTy.bf16.bits < FTy.f32.bits) (p : Fin R) :
    mulf (F := Ideal) (shapeCast ⟨2, ![R, 1]⟩ (multiReduction .maximumf [1] ⟨1, ![R]⟩ (absf (extf .f32 x hb)) 0xFF800000#32 h hφ hacc) hs)
      (broadcast ⟨2, ![R, 1]⟩ (Scalar.ofBits .f32 0x3B124925#32)) (ix2 p 0) = Scale.row fun j : Fin C => x (ix2 p j) := by
  have hm := row_max (absf (extf .f32 x hb)) 0xFF800000#32 h hφ hacc hs p
  rw [Scale.f32_bot] at hm
  exact congrArg (fun z : EReal => z * Ideal.ofBits .f32 0x3B124925#32) hm

/-- A row's lane numbers kept where the column's value reaches the lane's bound, at an index. -/
theorem reach {R C : ℕ} (hR : R ≠ 1) (hC : C ≠ 1) (r : FVec Ideal ⟨2, ![R, 1]⟩ .f32) (b : FVec Ideal ⟨2, ![1, C]⟩ .f32) (n : IVec ⟨2, ![1, C]⟩ 32)
    (h1 : (⟨2, ![R, 1]⟩ : Shape).Broadcasts ⟨2, ![R, C]⟩) (h2 : (⟨2, ![1, C]⟩ : Shape).Broadcasts ⟨2, ![R, C]⟩) (p : Fin R) (k : Fin C) :
    select (cmpf .oge (broadcastTo ⟨2, ![R, C]⟩ r h1) (broadcastTo ⟨2, ![R, C]⟩ b h2)) (broadcastTo ⟨2, ![R, C]⟩ n h2)
        (broadcast ⟨2, ![R, C]⟩ 0#32) (ix2 p k)
      = if b (ix2 0 k) ≤ r (ix2 p 0) then n (ix2 0 k) else 0#32 := by
  have e1 := bc_col hR r h1 p k
  have e2 := bc_row hC b h2 p k
  have e3 := bc_row hC n h2 p k
  change Scalar.select (BitVec.ofBool (decide (broadcastTo ⟨2, ![R, C]⟩ b h2 (ix2 p k) ≤ broadcastTo ⟨2, ![R, C]⟩ r h1 (ix2 p k))))
    (broadcastTo ⟨2, ![R, C]⟩ n h2 (ix2 p k)) 0#32 = _
  rw [e1, e2, e3]
  split
  · rename_i h; rw [decide_eq_true h]; rfl
  · rename_i h; rw [decide_eq_false h]; rfl

/-- A row's numbers kept where the column's value is below the lane's bound, at an index. -/
theorem below {R C : ℕ} (hR : R ≠ 1) (hC : C ≠ 1) (r : FVec Ideal ⟨2, ![R, 1]⟩ .f32) (b n : FVec Ideal ⟨2, ![1, C]⟩ .f32) (z : EReal)
    (h1 : (⟨2, ![R, 1]⟩ : Shape).Broadcasts ⟨2, ![R, C]⟩) (h2 : (⟨2, ![1, C]⟩ : Shape).Broadcasts ⟨2, ![R, C]⟩) (p : Fin R) (k : Fin C) :
    select (cmpf .olt (broadcastTo ⟨2, ![R, C]⟩ r h1) (broadcastTo ⟨2, ![R, C]⟩ b h2)) (broadcastTo ⟨2, ![R, C]⟩ n h2)
        (broadcast ⟨2, ![R, C]⟩ z) (ix2 p k)
      = if r (ix2 p 0) < b (ix2 0 k) then n (ix2 0 k) else z := by
  have e1 := bc_col hR r h1 p k
  have e2 := bc_row hC b h2 p k
  have e3 := bc_row hC n h2 p k
  change Scalar.select (BitVec.ofBool (decide (broadcastTo ⟨2, ![R, C]⟩ r h1 (ix2 p k) < broadcastTo ⟨2, ![R, C]⟩ b h2 (ix2 p k))))
    (broadcastTo ⟨2, ![R, C]⟩ n h2 (ix2 p k)) z = _
  rw [e1, e2, e3]
  split
  · rename_i h; rw [decide_eq_true h]; rfl
  · rename_i h; rw [decide_eq_false h]; rfl

end Cert.Reads
-- ==== Proof.KernelIdealRead.lean ====
/-
  What one grid point's body computes, at an index: the codes and scales of a block's rows and the block's outputs, as Scale.lean
  states them.
-/
module

public import proofs.«01_k».proof.Proof.KernelIdealBody
public import proofs.«01_k».proof.Proof.Scale
public import proofs.«01_k».proof.Proof.Reads

@[expose] public section

set_option maxRecDepth 16384

noncomputable section

namespace Cert.KernelIdeal.Read

open Idealize.ShloMosaic Idealize.ShloMosaic.TcCoe
open Cert.KernelIdeal Cert.KernelIdeal.Gen Cert.KernelIdeal.Body Cert.Reads

/-- The lane numbers of a row. -/
abbrev lanes : IVec S1x256 32 := iota .tc S1x256 32 [1] iota_S1x256_d1_w32

/-- The table the exponent field is the maximum of: its lane number where the row's value reaches the lane's power of two. -/
def table (r : FVec Ideal S256x1 .f32) : IVec S256x256 32 :=
  select (cmpf .oge (broadcastTo S256x256 r broadcasts_S256x1_S256x256)
      (broadcastTo S256x256 (bitcastToFloat .f32 (shli lanes (broadcast S1x256 23#32))) broadcasts_S1x256_S256x256))
    (broadcastTo S256x256 lanes broadcasts_S1x256_S256x256)
    (broadcast S256x256 0#32)

theorem table_apply (r : FVec Ideal S256x1 .f32) (p k : Fin 256) :
    table r (ix2 p k) = if Scale.pow (BitVec.ofNat 32 ↑k) ≤ r (ix2 p 0) then BitVec.ofNat 32 ↑k else 0#32 := by
  have hi : lanes (ix2 0 k) = BitVec.ofNat 32 ↑k := by pointwise
  have hb : bitcastToFloat (F := Ideal) .f32 (shli lanes (broadcast S1x256 23#32)) (ix2 0 k)
      = Scale.pow (BitVec.ofNat 32 ↑k) := by rw [← hi]; rfl
  rw [← hb, ← hi]
  exact reach (by decide) (by decide) r (bitcastToFloat (F := Ideal) .f32 (shli lanes (broadcast S1x256 23#32))) lanes _ _ p k

/-- The exponent fields, a row at a time. -/
theorem field (x : FVec Ideal S256x5120 .bf16) (p : Fin 256) :
    k0_pay4 (F := Ideal) x (ix2 p 0) = Scale.kfield (Scale.row fun j : Fin 5120 => x (ix2 p j)) := by
  have hr := row_narrow x reduces_S256x5120_S256 (.inr rfl) rfl shapeCasts_S256_S256x1 bitsLt_bf16_f32 p
  rw [← hr]
  unfold k0_pay4 Scale.kfield Scale.field
  rw [shapeCast_self]
  generalize mulf (F := Ideal) (extf .f32 (shapeCast S256x1 (multiReduction .maximumf [1] S256 (absf x) 0xFF80#16 reduces_S256x5120_S256 (.inr rfl) rfl)
      shapeCasts_S256_S256x1) bitsLt_bf16_f32) (broadcast S256x1 (Scalar.ofBits .f32 0x3B124925#32)) = r
  have hk := (row_maxsi (table r) 2147483648#32 reduces_S256x256_S256 rfl shapeCasts_S256_S256x1 p).trans
    (congrArg (fun f => Finset.fold IntOp.maxsi 2147483648#32 f Finset.univ) (funext fun k => table_apply r p k))
  dsimp only at hk
  rw [← hk]
  rfl

/-- The scales. -/
theorem scale (x : FVec Ideal S256x5120 .bf16) (p : Fin 256) (h : Scale.Ok (Scale.row fun j : Fin 5120 => x (ix2 p j))) :
    scaleOf (F := Ideal) x (ix2 p 0) = Scale.scale fun j : Fin 5120 => x (ix2 p j) := by
  unfold Scale.scale scaleOf
  rw [← Scale.scale_eq _ h, ← field]
  rfl

/-- The codes. -/
theorem code (x : FVec Ideal S256x5120 .bf16) (p : Fin 256) (q : Fin 5120) (h : Scale.Ok (Scale.row fun j : Fin 5120 => x (ix2 p j))) :
    codesOf (F := Ideal) x (ix2 p q) = Scale.code (fun j : Fin 5120 => x (ix2 p j)) q := by
  unfold Scale.code
  rw [← Scale.inv_eq _ h, ← field]
  unfold codesOf k0_pay8 k0_pay7 k0_pay6
  generalize k0_pay4 (F := Ideal) x = e
  simp only [truncf_apply, minimumf_apply, maximumf_apply, mulf_apply, extf_apply]
  rw [bc_col (by decide)]
  rfl

/-- A product of the codes with one expert's matrix. -/
theorem mm (c : FVec Ideal S256x5120 .fp8e4m3) (w : FVec Ideal S1x5120x2048 .fp8e4m3) (p : Fin 256) (q : Fin 2048) :
    matmul (F := Ideal) dot_S256x5120_S5120x2048_S256x2048_1_0_0_1_n_n none c (shapeCast S5120x2048 w shapeCasts_S1x5120x2048_S5120x2048)
      (constant S256x2048 .f32 0x00000000#32) (ix2 p q) = ∑ k : Fin 5120, c (ix2 p k) * w (ix3 0 k q) := by
  pointwise

/-- The rows that the mask names, each its own product times the row's and the columns' scales; the others as in `Y`. -/
theorem put (ids : IVec S256x1 32) (e : BitVec 32) (c : FVec Ideal S256x5120 .fp8e4m3) (w : FVec Ideal S1x5120x2048 .fp8e4m3) (sc : FVec Ideal S256x1 .f32)
    (s : FVec Ideal S1x2048 .f32) (Y : FVec Ideal S256x2048 .bf16) (p : Fin 256) (q : Fin 2048) :
    k0_pay3 (F := Ideal) ids e c w sc s Y (ix2 p q) =
      Scalar.select (IntOp.cmpi .eq (ids (ix2 p 0)) e) ((∑ k : Fin 5120, c (ix2 p k) * w (ix3 0 k q)) * sc (ix2 p 0) * s (ix2 0 q)) (Y (ix2 p q)) := by
  unfold k0_pay3 k0_pay1
  simp only [ValueIdx.select_apply, shapeCast_self, truncf_apply, mulf_apply, extf_apply]
  rw [bc_col (by decide), bc_col (by decide), bc_row (by decide), mm]
  rfl

/-- A guard holds of a positive word. -/
theorem guard_of (b : BitVec 32) (h : 1 ≤ b.toInt) :
    Scalar.cmpi .ne (Scalar.extui (Scalar.cmpi .sgt b 0#32) : BitVec 32) 0#32 = 1#1 := by
  have e : Scalar.cmpi .sgt b 0#32 = 1#1 := by
    show BitVec.ofBool ((0#32).slt b) = 1#1
    rw [show (0#32).slt b = true from decide_eq_true (by rw [show (0#32 : BitVec 32).toInt = 0 from rfl]; omega)]
    rfl
  rw [e]; rfl

/-- The guard of an expert that a row chose holds. -/
theorem hit_of (ids : IVec S256x1 32) (e : BitVec 32) (p : Fin 256) (h : IntOp.cmpi .eq (ids (ix2 p 0)) e = 1#1) :
    hit (k0_pay2 ids e) = 1#1 := by
  have key : hit (k0_pay2 ids e) = Scalar.cmpi .ne (Scalar.extui (Scalar.cmpi .sgt (k0_pay2 ids e (ix3 0 0 0)) 0#32) : BitVec 32) 0#32 := by
    unfold hit
    congr 3
  rw [key]
  pointwise [k0_pay2, k0_pay1]
  apply guard_of
  have hp := (SortNet.fold_maxsi_spec (fun x : Fin 256 × Fin 1 => BitVec.setWidth 32 (IntOp.cmpi .eq (ids (ix2 x.1 0)) e))
    Finset.univ 2147483648#32).2.1 (p, 0) (Finset.mem_univ _)
  simp only [h] at hp
  exact hp

/-- The output block after one expert. -/
def step (ids : IVec S256x1 32) (e : BitVec 32) (c : FVec Ideal S256x5120 .fp8e4m3) (w : FVec Ideal S1x5120x2048 .fp8e4m3) (sc : FVec Ideal S256x1 .f32)
    (s : FVec Ideal S1x2048 .f32) (Y : FVec Ideal S256x2048 .bf16) : FVec Ideal S256x2048 .bf16 :=
  if hit (k0_pay2 ids e) = 1#1 then k0_pay3 (F := Ideal) ids e c w sc s Y else Y

/-- The output block after one expert, at an index: the rows that chose the expert are replaced, whatever its guard says. -/
theorem step_apply (ids : IVec S256x1 32) (e : BitVec 32) (c : FVec Ideal S256x5120 .fp8e4m3) (w : FVec Ideal S1x5120x2048 .fp8e4m3) (sc : FVec Ideal S256x1 .f32)
    (s : FVec Ideal S1x2048 .f32) (Y : FVec Ideal S256x2048 .bf16) (p : Fin 256) (q : Fin 2048) :
    step ids e c w sc s Y (ix2 p q) =
      Scalar.select (IntOp.cmpi .eq (ids (ix2 p 0)) e) ((∑ k : Fin 5120, c (ix2 p k) * w (ix3 0 k q)) * sc (ix2 p 0) * s (ix2 0 q)) (Y (ix2 p q)) := by
  unfold step
  split
  · exact put ids e c w sc s Y p q
  · rename_i h
    have h0 : IntOp.cmpi .eq (ids (ix2 p 0)) e = 0#1 := by
      have := fun h' => h (hit_of ids e p h')
      revert this
      generalize IntOp.cmpi .eq (ids (ix2 p 0)) e = b
      revert b; decide
    rw [h0]; rfl

/-- The body's four steps are `step` at the four experts. -/
theorem outOf_eq (ids : IVec S256x1 32) (x : FVec Ideal S256x5120 .bf16) (w : FVec Ideal S4x5120x2048 .fp8e4m3) (ws : FVec Ideal S4x2048 .f32)
    (Y : FVec Ideal S256x2048 .bf16) :
    outOf (F := Ideal) ids x w ws Y = step ids 3#32 (codesOf (F := Ideal) x) (w3 (F := Ideal) w) (scaleOf (F := Ideal) x) (s3 (F := Ideal) ws)
      (step ids 2#32 (codesOf (F := Ideal) x) (w2 (F := Ideal) w) (scaleOf (F := Ideal) x) (s2 (F := Ideal) ws)
        (step ids 1#32 (codesOf (F := Ideal) x) (w1 (F := Ideal) w) (scaleOf (F := Ideal) x) (s1 (F := Ideal) ws)
          (step ids 0#32 (codesOf (F := Ideal) x) (w0 (F := Ideal) w) (scaleOf (F := Ideal) x) (s0 (F := Ideal) ws) Y))) := by
  have e9 : k0_pay9 (F := Ideal) ids = ids := shapeCast_self _ _
  unfold outOf step3 step2 step1 step0 step
  rw [e9]
  have h11 : k0_pay11 (F := Ideal) ids = k0_pay2 ids 0#32 := by unfold k0_pay11 k0_pay10 k0_pay2 k0_pay1; rw [e9]
  have h14 : k0_pay14 (F := Ideal) ids = k0_pay2 ids 1#32 := by unfold k0_pay14 k0_pay13 k0_pay2 k0_pay1; rw [e9]
  have h17 : k0_pay17 (F := Ideal) ids = k0_pay2 ids 2#32 := by unfold k0_pay17 k0_pay16 k0_pay2 k0_pay1; rw [e9]
  have h12 : k0_pay12 (F := Ideal) ids = k0_pay3 (F := Ideal) ids 0#32 := by unfold k0_pay12 k0_pay10 k0_pay3 k0_pay1; rw [e9]
  have h15 : k0_pay15 (F := Ideal) ids = k0_pay3 (F := Ideal) ids 1#32 := by unfold k0_pay15 k0_pay13 k0_pay3 k0_pay1; rw [e9]
  have h18 : k0_pay18 (F := Ideal) ids = k0_pay3 (F := Ideal) ids 2#32 := by unfold k0_pay18 k0_pay16 k0_pay3 k0_pay1; rw [e9]
  rw [h11, h14, h17, h12, h15, h18]

/-- An expert's matrix, at an index. -/
theorem w_apply (w : FVec Ideal S4x5120x2048 .fp8e4m3) (k : Fin 5120) (q : Fin 2048) :
    w0 (F := Ideal) w (ix3 0 k q) = w (ix3 0 k q) ∧ w1 (F := Ideal) w (ix3 0 k q) = w (ix3 1 k q)
      ∧ w2 (F := Ideal) w (ix3 0 k q) = w (ix3 2 k q) ∧ w3 (F := Ideal) w (ix3 0 k q) = w (ix3 3 k q) := by
  refine ⟨?_, ?_, ?_, ?_⟩
  all_goals
    refine congrArg w (funext fun a => Fin.ext ?_)
    match a with
    | ⟨0, _⟩ => rfl
    | ⟨1, _⟩ => show 0 + 1 * (k : ℕ) = k; omega
    | ⟨2, _⟩ => show 0 + 1 * (q : ℕ) = q; omega

/-- An expert's column scales, at an index. -/
theorem s_apply (ws : FVec Ideal S4x2048 .f32) (q : Fin 2048) :
    s0 (F := Ideal) ws (ix2 0 q) = ws (ix2 0 q) ∧ s1 (F := Ideal) ws (ix2 0 q) = ws (ix2 1 q)
      ∧ s2 (F := Ideal) ws (ix2 0 q) = ws (ix2 2 q) ∧ s3 (F := Ideal) ws (ix2 0 q) = ws (ix2 3 q) := by
  refine ⟨?_, ?_, ?_, ?_⟩
  all_goals
    refine congrArg ws (funext fun a => Fin.ext ?_)
    match a with
    | ⟨0, _⟩ => rfl
    | ⟨1, _⟩ => show 0 + 1 * (q : ℕ) = q; omega

/-- The output of a row that names one of the four experts: whatever the block held before. -/
theorem out (ids : IVec S256x1 32) (x : FVec Ideal S256x5120 .bf16) (w : FVec Ideal S4x5120x2048 .fp8e4m3) (ws : FVec Ideal S4x2048 .f32)
    (Y : FVec Ideal S256x2048 .bf16) (p : Fin 256) (q : Fin 2048) (h : Scale.Ok (Scale.row fun j : Fin 5120 => x (ix2 p j)))
    (hb : ids (ix2 p 0) = 0#32 ∨ ids (ix2 p 0) = 1#32 ∨ ids (ix2 p 0) = 2#32 ∨ ids (ix2 p 0) = 3#32) :
    outOf (F := Ideal) ids x w ws Y (ix2 p q) =
      Scale.out (fun j : Fin 5120 => x (ix2 p j)) (ids (ix2 p 0)) (fun (e : Fin 4) k => w (ix3 e k q)) (fun e : Fin 4 => ws (ix2 e q)) := by
  have hw := fun k => w_apply w k q
  obtain ⟨a0, a1, a2, a3⟩ := s_apply ws q
  have b0 : ∀ k, w0 (F := Ideal) w (ix3 0 k q) = w (ix3 0 k q) := fun k => (hw k).1
  have b1 : ∀ k, w1 (F := Ideal) w (ix3 0 k q) = w (ix3 1 k q) := fun k => (hw k).2.1
  have b2 : ∀ k, w2 (F := Ideal) w (ix3 0 k q) = w (ix3 2 k q) := fun k => (hw k).2.2.1
  have b3 : ∀ k, w3 (F := Ideal) w (ix3 0 k q) = w (ix3 3 k q) := fun k => (hw k).2.2.2
  have hc := fun k => code x p k h
  rw [outOf_eq, step_apply, step_apply, step_apply, step_apply]
  unfold Scale.out Scale.pick
  simp only [hc, scale x p h, a0, a1, a2, a3, b0, b1, b2, b3]
  generalize ids (ix2 p 0) = b at hb ⊢
  have e0 : IntOp.cmpi .eq 0#32 3#32 = 0#1 ∧ IntOp.cmpi .eq 0#32 2#32 = 0#1 ∧ IntOp.cmpi .eq 0#32 1#32 = 0#1 ∧ IntOp.cmpi .eq 0#32 0#32 = 1#1 := by decide
  have e1 : IntOp.cmpi .eq 1#32 3#32 = 0#1 ∧ IntOp.cmpi .eq 1#32 2#32 = 0#1 ∧ IntOp.cmpi .eq 1#32 1#32 = 1#1 := by decide
  have e2 : IntOp.cmpi .eq 2#32 3#32 = 0#1 ∧ IntOp.cmpi .eq 2#32 2#32 = 1#1 := by decide
  have e3 : IntOp.cmpi .eq 3#32 3#32 = 1#1 := by decide
  have t : ∀ u v : EReal, Scalar.select 1#1 u v = u := fun _ _ => rfl
  have f : ∀ u v : EReal, Scalar.select 0#1 u v = v := fun _ _ => rfl
  rcases hb with rfl | rfl | rfl | rfl
  · obtain ⟨z3, z2, z1, z0⟩ := e0; simp only [z3, z2, z1, z0, t, f]
  · obtain ⟨z3, z2, z1⟩ := e1; simp only [z3, z2, z1, t, f]
  · obtain ⟨z3, z2⟩ := e2; simp only [z3, z2, t, f]
  · simp only [e3, t, f]

end Cert.KernelIdeal.Read
-- ==== Proof.Result.lean ====
/-
  The three results as functions of the argument arrays, token by token, and what the precondition says of the arguments.
-/
module

public import proofs.«01_k».proof.Proof.Scale
public import proofs.«01_k».proof.Pre_inputs_ok
public import Idealize.ShloMosaic.Lib.Pointwise
public import Idealize.ShloMosaic.Lib.Affine

@[expose] public section

set_option maxRecDepth 16384

noncomputable section

namespace Cert.Result

open Idealize.ShloMosaic

/-- The shapes of the arguments and results. -/
abbrev Sx : Shape := ⟨2, ![24576, 5120]⟩
abbrev Sid : Shape := ⟨1, ![24576]⟩
abbrev Sw : Shape := ⟨3, ![4, 5120, 2048]⟩
abbrev Sws : Shape := ⟨2, ![4, 2048]⟩
abbrev Sout : Shape := ⟨2, ![24576, 2048]⟩
abbrev Scol : Shape := ⟨2, ![24576, 1]⟩

/-- The codes. -/
def codes (x : FVec Ideal Sx .bf16) : FVec Ideal Sx .fp8e4m3 := fun i => Scale.code (fun j : Fin 5120 => x (ix2 (i 0) j)) (i 1)

/-- The scales. -/
def scales (x : FVec Ideal Sx .bf16) : FVec Ideal Scol .f32 := fun i => Scale.scale (fun j : Fin 5120 => x (ix2 (i 0) j))

/-- The outputs. -/
def out (x : FVec Ideal Sx .bf16) (ids : IVec Sid 32) (w : FVec Ideal Sw .fp8e4m3) (ws : FVec Ideal Sws .f32) : FVec Ideal Sout .bf16 := fun i =>
  Scale.out (fun j : Fin 5120 => x (ix2 (i 0) j)) (ids (ix1 (i 0))) (fun (e : Fin 4) k => w (ix3 e k (i 1))) (fun e : Fin 4 => ws (ix2 e (i 1)))

/-- What the precondition says: no element of `x` is beyond the range of its type, and every token names one of the four experts. -/
def Good (x : FVec Ideal Sx .bf16) (ids : IVec Sid 32) : Prop :=
  (∀ i, max (x i) (-(x i)) ≤ Ideal.ofBits .bf16 32639#16 ∨ max (x i) (-(x i)) = ⊤)
    ∧ ∀ t, ids t = 0#32 ∨ ids t = 1#32 ∨ ids t = 2#32 ∨ ids t = 3#32

/-- A conjunction folded over a whole array holds only if every element holds. -/
theorem all_of {s : Shape} {axes : List (Fin s.rank)} {u : Shape} (v : IVec s 1) (init : IVec u 1) (t : Shape) (h : s.ReducesTo axes t) (hu : 0 < u.numel)
    (j : t.Idx) (hd : ∀ i, h.drop i = j) (e : Host.reduce IntOp.andi v init h hu j = 1#1) (i : s.Idx) : v i = 1#1 := by
  rw [Host.reduce_eq_fold] at e
  have key : ∀ S : Finset s.Idx, S.fold IntOp.andi (init (Shape.Idx.first hu)) v = 1#1 → ∀ i ∈ S, v i = 1#1 := by
    intro S
    induction S using Finset.cons_induction with
    | empty => intro _ i hi; simp at hi
    | cons a S ha ih =>
      intro e i hi
      rw [Finset.fold_cons, IntOp.andi_eq_one] at e
      rcases Finset.mem_cons.mp hi with rfl | hi
      · exact e.1
      · exact ih e.2 i hi
  exact key _ e i (by simp [hd])

/-- An element that passes the range test. -/
theorem range_of (x : EReal) (h : IntOp.ori (FloatOps.cmpf (F := Ideal) (φ := .bf16) .ole (FloatOps.absf (F := Ideal) (φ := .bf16) x) (Ideal.ofBits .bf16 0x7F7F#16))
      (FloatOps.cmpf (F := Ideal) (φ := .bf16) .oeq (FloatOps.absf (F := Ideal) (φ := .bf16) x) (Ideal.ofBits .bf16 0x7F80#16)) = 1#1) :
    max x (-x) ≤ Ideal.ofBits .bf16 32639#16 ∨ max x (-x) = ⊤ := by
  rw [IntOp.ori_eq_one] at h
  rcases h with h | h
  · left
    change BitVec.ofBool (decide (max x (-x) ≤ Ideal.ofBits .bf16 32639#16)) = 1#1 at h
    by_contra hn
    rw [decide_eq_false hn] at h
    exact absurd h (by decide)
  · right
    change BitVec.ofBool (decide (max x (-x) = Ideal.ofBits .bf16 32640#16)) = 1#1 at h
    rw [show Ideal.ofBits .bf16 32640#16 = (⊤ : EReal) by simp [Ideal.ofBits, Ideal.ieee]] at h
    by_contra hn
    rw [decide_eq_false hn] at h
    exact absurd h (by decide)

/-- A word that passes the expert test. -/
theorem expert_of (b : BitVec 32) (h : IntOp.andi (IntOp.cmpi .sge b 0#32) (IntOp.cmpi .slt b 4#32) = 1#1) :
    b = 0#32 ∨ b = 1#32 ∨ b = 2#32 ∨ b = 3#32 := by
  rw [IntOp.andi_eq_one] at h
  obtain ⟨h1, h2⟩ := h
  have e1 : 0 ≤ b.toInt := by
    have : (0#32).sle b = true := by
      revert h1; show BitVec.ofBool ((0#32).sle b) = 1#1 → _
      cases (0#32).sle b <;> simp
    simpa [BitVec.sle_eq_decide] using this
  have e2 : b.toInt < 4 := by
    have : b.slt 4#32 = true := by
      revert h2; show BitVec.ofBool (b.slt 4#32) = 1#1 → _
      cases b.slt 4#32 <;> simp
    have := of_decide_eq_true ((BitVec.slt_eq_decide).symm.trans this)
    exact this
  have c : b.toInt = 0 ∨ b.toInt = 1 ∨ b.toInt = 2 ∨ b.toInt = 3 := by omega
  rcases c with c | c | c | c
  · exact Or.inl (BitVec.eq_of_toInt_eq c)
  · exact Or.inr (Or.inl (BitVec.eq_of_toInt_eq c))
  · exact Or.inr (Or.inr (Or.inl (BitVec.eq_of_toInt_eq c)))
  · exact Or.inr (Or.inr (Or.inr (BitVec.eq_of_toInt_eq c)))

/-- The precondition's predicate, all ones, says so. -/
theorem good_of [Cert.Pre_inputs_ok.Facts] (x : FVec Ideal Sx .bf16) (ids : IVec Sid 32) (w : FVec Ideal Sw .fp8e4m3) (ws : FVec Ideal Sws .f32)
    (h : Cert.Pre_inputs_ok.fn (F := Ideal) x ids w ws = fun _ => 1#1) : Good x ids := by
  have h0 := congrFun h (fun a => a.elim0)
  unfold Cert.Pre_inputs_ok.fn at h0
  simp only [andi] at h0
  rw [IntOp.andi_eq_one] at h0
  refine ⟨fun i => range_of _ ?_, fun t => expert_of _ ?_⟩
  · exact all_of _ _ _ _ _ _ (fun _ => funext fun a => a.elim0) h0.1 i
  · exact all_of _ _ _ _ _ _ (fun _ => funext fun a => a.elim0) h0.2 t

/-- The rows of good arguments. -/
theorem Good.row {x : FVec Ideal Sx .bf16} {ids : IVec Sid 32} (h : Good x ids) (p : Fin 24576) : Scale.Ok (Scale.row fun j : Fin 5120 => x (ix2 p j)) :=
  Scale.row_ok _ fun _ => h.1 _

end Cert.Result
-- ==== Proof.KernelIdealValue.lean ====
/-
  What the kernel's three output arrays hold at the end, under the precondition: the functions of Result.lean at its argument arrays.
  Every grid point writes its block of 256 tokens of each array, and the 96 blocks fill the arrays.
-/
module

public import proofs.«01_k».proof.Proof.KernelIdealRun
public import proofs.«01_k».proof.Proof.KernelIdealRead
public import proofs.«01_k».proof.Proof.Result
public import Idealize.ShloMosaic.Lib.Pipeline.ValueKit
public import Idealize.ShloMosaic.Lib.Pipeline.ArrRel
public import Idealize.ShloMosaic.Lib.StableHlo.Run

@[expose] public section

set_option maxRecDepth 16384

noncomputable section

namespace Cert.KernelIdeal.Final

open Idealize.ShloMosaic Idealize.ShloMosaic.TcCoe Idealize.SL.Sem
open Idealize.ShloMosaic.Pipeline (Dat RDat)
open Cert.KernelIdeal Cert.KernelIdeal.Gen Cert.KernelIdeal.Body

/-- An index of a matrix, by its coordinates. -/
theorem ix2_eta {R C : ℕ} (j : (⟨2, ![R, C]⟩ : Shape).Idx) : ix2 (j 0) (j 1) = j := (funext fun a => by fin_cases a <;> rfl)

variable (m : (ℓ : Loc nD τ sig) → Buf (Elt Ideal) ℓ) (ρ : Dev nD → PrngReg)

/-- The token of a block's row. -/
def tok (t : Fin cfg0.N) (p : Fin 256) : Fin 24576 := ⟨t.val * 256 + p.val, by have h : t.val < 96 := N_0 ▸ t.isLt; omega⟩

/-- The column of expert ids that the host passes to the call. -/
theorem V_ids (c : Dev nD) (p : Fin 24576) :
    (V m c main_v0 : Vec Ideal S24576x1 .i32) (ix2 p 0) = (m ((c : Thread nD τ).loc main_arg1) : IVec S24576 32) (ix1 p) := by
  have h : V m c main_v0 = shapeCast S24576x1 (m ((c : Thread nD τ).loc main_arg1) : IVec S24576 32) shapeCasts_S24576_S24576x1 := by
    show StableHlo.after hostOps0 _ (Proc.devRef .tc main_v0) = _
    after_results
    rfl
  rw [h]
  exact Reads.col_cast _ _ p

/-- Every window's block index at a point. -/
theorem idx : ∀ t : Fin cfg0.N, win0_0.index t = ![t.val, 0] ∧ win0_1.index t = ![t.val, 0] ∧ win0_2.index t = ![0, 0, 0] ∧ win0_3.index t = ![0, 0]
    ∧ win0_4.index t = ![t.val, 0] ∧ win0_5.index t = ![t.val, 0] ∧ win0_6.index t = ![t.val, 0] :=
  (by decide +kernel : ∀ t : Fin grid0.N, _)

theorem iblk0 (c : Dev nD) (t : Fin cfg0.N) (p : Fin 256) :
    (iblk m c 0 t : Vec Ideal S256x1 .i32) (ix2 p 0) = (m ((c : Thread nD τ).loc main_arg1) : IVec S24576 32) (ix1 (tok t p)) := by
  refine Eq.trans ?_ (V_ids m c (tok t p))
  unfold iblk
  refine congrArg (V m c main_v0) (funext fun a => Fin.ext ?_)
  match a with
  | ⟨0, _⟩ => show win0_0.index t 0 * 256 + 1 * (p : ℕ) = t.val * 256 + p.val; rw [(idx t).1]; show t.val * 256 + 1 * (p : ℕ) = _; omega
  | ⟨1, _⟩ => show win0_0.index t 1 * 1 + 1 * 0 = 0; rw [(idx t).1]; rfl

theorem iblk1 (c : Dev nD) (t : Fin cfg0.N) (p : Fin 256) (j : Fin 5120) :
    (iblk m c 1 t : Vec Ideal S256x5120 .bf16) (ix2 p j) = (m ((c : Thread nD τ).loc main_arg0) : FVec Ideal S24576x5120 .bf16) (ix2 (tok t p) j) := by
  rw [← V_main_arg0 m c]
  unfold iblk
  refine congrArg (V m c main_arg0) (funext fun a => Fin.ext ?_)
  match a with
  | ⟨0, _⟩ => show win0_1.index t 0 * 256 + 1 * (p : ℕ) = t.val * 256 + p.val; rw [(idx t).2.1]; show t.val * 256 + 1 * (p : ℕ) = _; omega
  | ⟨1, _⟩ => show win0_1.index t 1 * 5120 + 1 * (j : ℕ) = j; rw [(idx t).2.1]; show 0 * 5120 + 1 * (j : ℕ) = j; omega

theorem iblk2 (c : Dev nD) (t : Fin cfg0.N) : iblk m c 2 t = m ((c : Thread nD τ).loc main_arg2) := by
  rw [← V_main_arg2 m c]; blk_ext! [iblk, idx t]
theorem iblk3 (c : Dev nD) (t : Fin cfg0.N) : iblk m c 3 t = m ((c : Thread nD τ).loc main_arg3) := by
  rw [← V_main_arg3 m c]; blk_ext! [iblk, idx t]

/-- Where a block's element lies in the output array. -/
theorem emb4 (t : Fin cfg0.N) (p : Fin 256) (q : Fin 2048) : ((cfg0.win 4).blk t).view.emb (ix2 p q) = (ix2 (tok t p) q : S24576x2048.Idx) := by
  refine funext fun a => Fin.ext ?_
  match a with
  | ⟨0, _⟩ => show win0_4.index t 0 * 256 + 1 * (p : ℕ) = t.val * 256 + p.val; rw [(idx t).2.2.2.2.1]; show t.val * 256 + 1 * (p : ℕ) = _; omega
  | ⟨1, _⟩ => show win0_4.index t 1 * 2048 + 1 * (q : ℕ) = q; rw [(idx t).2.2.2.2.1]; show 0 * 2048 + 1 * (q : ℕ) = q; omega

/-- Where a block's element lies in the codes array. -/
theorem emb5 (t : Fin cfg0.N) (p : Fin 256) (q : Fin 5120) : ((cfg0.win 5).blk t).view.emb (ix2 p q) = (ix2 (tok t p) q : S24576x5120.Idx) := by
  refine funext fun a => Fin.ext ?_
  match a with
  | ⟨0, _⟩ => show win0_5.index t 0 * 256 + 1 * (p : ℕ) = t.val * 256 + p.val; rw [(idx t).2.2.2.2.2.1]; show t.val * 256 + 1 * (p : ℕ) = _; omega
  | ⟨1, _⟩ => show win0_5.index t 1 * 5120 + 1 * (q : ℕ) = q; rw [(idx t).2.2.2.2.2.1]; show 0 * 5120 + 1 * (q : ℕ) = q; omega

/-- Where a block's element lies in the scales array. -/
theorem emb6 (t : Fin cfg0.N) (p : Fin 256) : ((cfg0.win 6).blk t).view.emb (ix2 p 0) = (ix2 (tok t p) 0 : S24576x1.Idx) := by
  refine funext fun a => Fin.ext ?_
  match a with
  | ⟨0, _⟩ => show win0_6.index t 0 * 256 + 1 * (p : ℕ) = t.val * 256 + p.val; rw [(idx t).2.2.2.2.2.2]; show t.val * 256 + 1 * (p : ℕ) = _; omega
  | ⟨1, _⟩ => show win0_6.index t 1 * 1 + 1 * 0 = 0; rw [(idx t).2.2.2.2.2.2]; rfl

variable (hg : ∀ c : Dev nD, Result.Good (m ((c : Thread nD τ).loc main_arg0)) (m ((c : Thread nD τ).loc main_arg1)))

/-- A block's row of inputs is the token's row. -/
theorem rowb (c : Dev nD) (t : Fin cfg0.N) (p : Fin 256) :
    (fun j : Fin 5120 => (iblk m c 1 t : Vec Ideal S256x5120 .bf16) (ix2 p j))
      = fun j => (m ((c : Thread nD τ).loc main_arg0) : FVec Ideal S24576x5120 .bf16) (ix2 (tok t p) j) :=
  funext fun j => iblk1 m c t p j

include hg

theorem ok (c : Dev nD) (t : Fin cfg0.N) (p : Fin 256) :
    Scale.Ok (Scale.row fun j : Fin 5120 => (iblk m c 1 t : Vec Ideal S256x5120 .bf16) (ix2 p j)) := by
  rw [rowb]; exact (hg c).row (tok t p)

/-- A block of codes. -/
theorem codes (c : Dev nD) (t : Fin cfg0.N) (p : Fin 256) (q : Fin 5120) :
    (codesOf (F := Ideal) (iblk m c 1 t)) (ix2 p q) = Result.codes (m ((c : Thread nD τ).loc main_arg0)) (ix2 (tok t p) q) :=
  (Read.code _ p q (ok m hg c t p)).trans (congrArg (fun f => Scale.code f q) (rowb m c t p))

/-- A block of scales. -/
theorem scales (c : Dev nD) (t : Fin cfg0.N) (p : Fin 256) :
    (scaleOf (F := Ideal) (iblk m c 1 t)) (ix2 p 0) = Result.scales (m ((c : Thread nD τ).loc main_arg0)) (ix2 (tok t p) 0) :=
  (Read.scale _ p (ok m hg c t p)).trans (congrArg (fun f => Scale.scale f) (rowb m c t p))

/-- A block of outputs, whatever the staging buffer held before. -/
theorem outs (c : Dev nD) (t : Fin cfg0.N) (Y : FVec Ideal S256x2048 .bf16) (p : Fin 256) (q : Fin 2048) :
    outOf (F := Ideal) (iblk m c 0 t) (iblk m c 1 t) (iblk m c 2 t) (iblk m c 3 t) Y (ix2 p q)
      = Result.out (m ((c : Thread nD τ).loc main_arg0)) (m ((c : Thread nD τ).loc main_arg1)) (m ((c : Thread nD τ).loc main_arg2)) (m ((c : Thread nD τ).loc main_arg3)) (ix2 (tok t p) q) := by
  rw [iblk2, iblk3]
  refine (Read.out _ _ _ _ Y p q (ok m hg c t p) ?_).trans ?_
  · rw [iblk0]; exact (hg c).2 _
  · rw [iblk0, rowb]; rfl

theorem final4 (c : Dev nD) (after) (hL : ∀ w u, (cfg0.win w).flush u = true → (Run.rdats m c).Leaves w u (after w u)) :
    ((Run.rdats m c).withAfter after).arrAt 4 cfg0.N
      = Result.out (m ((c : Thread nD τ).loc main_arg0)) (m ((c : Thread nD τ).loc main_arg1)) (m ((c : Thread nD τ).loc main_arg2)) (m ((c : Thread nD τ).loc main_arg3)) := by
  refine ((Run.rdats m c).withAfter after).arrAt_eq_of_covers 4 _ (by decide +kernel) fun t hf y => ?_
  obtain ⟨Y, hY⟩ : ∃ Y, after 4 t = outOf (F := Ideal) (iblk m c 0 t) (iblk m c 1 t) (iblk m c 2 t) (iblk m c 3 t) Y :=
    (Run.dats m c).toRRel_leaves (w := 4) rfl (hL 4 t hf)
  have e : (after 4 t : Vec Ideal S256x2048 .bf16) (ix2 (y 0) (y 1)) = _ := (congrFun hY _).trans (outs m hg c t Y (y 0) (y 1))
  have hy : (ix2 (y 0) (y 1) : S256x2048.Idx) = y := ix2_eta (R := 256) (C := 2048) y
  rw [show ((cfg0.win 4).blk t).view.emb y = _ from (congrArg _ hy.symm).trans (emb4 t (y 0) (y 1))]
  refine Eq.trans ?_ e
  exact congrArg (after 4 t) hy.symm

theorem final5 (c : Dev nD) (after) (hL : ∀ w u, (cfg0.win w).flush u = true → (Run.rdats m c).Leaves w u (after w u)) :
    ((Run.rdats m c).withAfter after).arrAt 5 cfg0.N = Result.codes (m ((c : Thread nD τ).loc main_arg0)) := by
  refine ((Run.rdats m c).withAfter after).arrAt_eq_of_covers 5 _ (by decide +kernel) fun t hf y => ?_
  have hY : after 5 t = codesOf (F := Ideal) (iblk m c 1 t) := by
    obtain ⟨Y, -, h⟩ := hL 5 t hf
    unfold Run.rdats at h
    rw [(Run.dats m c).toRRel_after_of_eq_false (w := 5) rfl] at h
    exact (Dat.Leaves.cut_eq (Run.dats m c) (w := 5) h hf).trans (Run.after_5 m c t)
  have e : (after 5 t : Vec Ideal S256x5120 .fp8e4m3) (ix2 (y 0) (y 1)) = _ := (congrFun hY _).trans (codes m hg c t (y 0) (y 1))
  have hy : (ix2 (y 0) (y 1) : S256x5120.Idx) = y := ix2_eta (R := 256) (C := 5120) y
  rw [show ((cfg0.win 5).blk t).view.emb y = _ from (congrArg _ hy.symm).trans (emb5 t (y 0) (y 1))]
  refine Eq.trans ?_ e
  exact congrArg (after 5 t) hy.symm

theorem final6 (c : Dev nD) (after) (hL : ∀ w u, (cfg0.win w).flush u = true → (Run.rdats m c).Leaves w u (after w u)) :
    ((Run.rdats m c).withAfter after).arrAt 6 cfg0.N = Result.scales (m ((c : Thread nD τ).loc main_arg0)) := by
  refine ((Run.rdats m c).withAfter after).arrAt_eq_of_covers 6 _ (by decide +kernel) fun t hf y => ?_
  have hY : after 6 t = scaleOf (F := Ideal) (iblk m c 1 t) := by
    obtain ⟨Y, -, h⟩ := hL 6 t hf
    unfold Run.rdats at h
    rw [(Run.dats m c).toRRel_after_of_eq_false (w := 6) rfl] at h
    exact (Dat.Leaves.cut_eq (Run.dats m c) (w := 6) h hf).trans (Run.after_6 m c t)
  have e : (after 6 t : Vec Ideal S256x1 .f32) (ix2 (y 0) 0) = _ := (congrFun hY _).trans (scales m hg c t (y 0))
  have hy : (ix2 (y 0) 0 : S256x1.Idx) = y := funext fun a => match a with
    | ⟨0, _⟩ => rfl
    | ⟨1, _⟩ => Fin.ext (by have h : (y 1 : ℕ) < 1 := (y 1).isLt; show 0 = (y 1 : ℕ); omega)
  rw [show ((cfg0.win 6).blk t).view.emb y = _ from (congrArg _ hy.symm).trans (emb6 t (y 0))]
  refine Eq.trans ?_ e
  exact congrArg (after 6 t) hy.symm

/-- The kernel's run: every result is the function of Result.lean, and the arguments end unchanged. -/
theorem run : θ_run defs (onTc (τ := τ) (main (F := Ideal))) ⟨m, fun _ => 0, ρ⟩ fun r => ∀ c : Dev nD,
      r.2.mem ((c : Thread nD τ).loc main_v1_0)
        = Result.out (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = Result.codes (m ((c : Thread nD τ).loc main_arg0))
      ∧ r.2.mem ((c : Thread nD τ).loc main_v1_2) = Result.scales (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
      obtain ⟨after, hL, hA⟩ := h.1.exists_exact c
      exact ⟨(hA 4).trans (final4 m hg c after hL), (hA 5).trans (final5 m hg c after hL), (hA 6).trans (final6 m hg c after hL), Run.args_of m h.1 c⟩)
    (Run.run_quiescent m ρ)

end Cert.KernelIdeal.Final
end
-- ==== Proof.ReferenceIdealRead.lean ====
/-
  What the reference's body computes, at an index: its exponents, scales, codes and outputs, row by row, as Scale.lean states them.
-/
module

public import proofs.«01_k».proof.Proof.Gen.ReferenceIdeal.Skeleton
public import proofs.«01_k».proof.Proof.Scale
public import proofs.«01_k».proof.Proof.Reads

@[expose] public section

set_option maxRecDepth 16384

noncomputable section

namespace Cert.ReferenceIdeal.Read

open Idealize.ShloMosaic Idealize.ShloMosaic.TcCoe
open Cert.ReferenceIdeal Cert.ReferenceIdeal.Gen Cert.Reads

/-- The exponents that the reference tries, in order. -/
abbrev lanes : FVec Ideal S1x256 .f32 :=
  sitofp (F := Ideal) .f32 (subi (iota .tc S1x256 32 [1] iota_S1x256_d1_w32) (broadcast S1x256 127#32))

/-- The table the exponent is the minimum of: an exponent where the row's value is below its power of two, infinity elsewhere. -/
def table (r : FVec Ideal S24576x1 .f32) : FVec Ideal S24576x256 .f32 :=
  select (cmpf .olt (broadcastTo S24576x256 r broadcasts_S24576x1_S24576x256) (broadcastTo S24576x256 (exp2 lanes) broadcasts_S1x256_S24576x256))
    (broadcastTo S24576x256 lanes broadcasts_S1x256_S24576x256)
    (broadcast S24576x256 (Scalar.ofBits (F := Ideal) .f32 0x7F800000#32))

theorem table_apply (r : FVec Ideal S24576x1 .f32) (p : Fin 24576) (k : Fin 256) :
    table r (ix2 p k) = if r (ix2 p 0) < Ideal.exp2 (((IntOp.subi (BitVec.ofNat 32 ↑k) 127#32).toInt : ℝ) : EReal)
      then (((IntOp.subi (BitVec.ofNat 32 ↑k) 127#32).toInt : ℝ) : EReal) else Ideal.ofBits .f32 2139095040#32 := by
  have hi : iota .tc S1x256 32 [1] iota_S1x256_d1_w32 (ix2 0 k) = BitVec.ofNat 32 ↑k := by pointwise
  have hl : lanes (ix2 0 k) = (((IntOp.subi (BitVec.ofNat 32 ↑k) 127#32).toInt : ℝ) : EReal) := by rw [← hi]; rfl
  rw [← hl]
  exact below (by decide) (by decide) r (exp2 lanes) lanes (Ideal.ofBits .f32 2139095040#32) _ _ p k

/-- The exponents, from any row values. -/
def expOf (r : FVec Ideal S24576x1 .f32) : FVec Ideal S24576x1 .f32 :=
  select (ori (cmpf .olt r (broadcast S24576x1 (Scalar.ofBits .f32 0x00800000#32))) (cmpf .oeq r (broadcast S24576x1 (Scalar.ofBits .f32 0x7F800000#32))))
    (broadcast S24576x1 (Scalar.ofBits .f32 0x00000000#32))
    (shapeCast S24576x1 (multiReduction .minimumf [1] S24576 (table r) 0x7F800000#32 reduces_S24576x256_S24576 (.inl rfl) rfl) shapeCasts_S24576_S24576x1)

theorem expOf_apply (r : FVec Ideal S24576x1 .f32) (p : Fin 24576) : expOf r (ix2 p 0) = Scale.rexp (r (ix2 p 0)) := by
  have hk := (row_min (table r) 0x7F800000#32 reduces_S24576x256_S24576 (.inl rfl) rfl shapeCasts_S24576_S24576x1 p).trans
    (congrArg (fun f => Finset.fold min (Ideal.ofBits .f32 2139095040#32) f Finset.univ) (funext fun k => table_apply r p k))
  have hs : ∀ M : FVec Ideal S24576x1 .f32,
      select (ori (cmpf .olt r (broadcast S24576x1 (Scalar.ofBits (F := Ideal) .f32 0x00800000#32)))
        (cmpf .oeq r (broadcast S24576x1 (Scalar.ofBits (F := Ideal) .f32 0x7F800000#32)))) (broadcast S24576x1 (Scalar.ofBits (F := Ideal) .f32 0x00000000#32)) M (ix2 p 0)
        = Scalar.select (IntOp.ori (BitVec.ofBool (decide (r (ix2 p 0) < Ideal.ofBits .f32 8388608#32)))
            (BitVec.ofBool (decide (r (ix2 p 0) = Ideal.ofBits .f32 2139095040#32)))) (Ideal.ofBits .f32 0#32) (M (ix2 p 0)) := fun _ => rfl
  unfold expOf
  refine (hs _).trans ?_
  rw [Scale.f32_zero]
  exact congrArg (Scalar.select _ (0 : EReal)) hk

/-- The exponents, a row at a time. -/
theorem exponent (x : FVec Ideal S24576x5120 .bf16) (p : Fin 24576) :
    k0_pay3 (F := Ideal) x (ix2 p 0) = Scale.rexp (Scale.row fun j : Fin 5120 => x (ix2 p j)) := by
  have hr := row_wide x reduces_S24576x5120_S24576 (.inl rfl) rfl shapeCasts_S24576_S24576x1 bitsLt_bf16_f32 p
  have h := expOf_apply (mulf (F := Ideal) (shapeCast S24576x1 (multiReduction .maximumf [1] S24576 (absf (extf .f32 x bitsLt_bf16_f32)) 0xFF800000#32
      reduces_S24576x5120_S24576 (.inl rfl) rfl) shapeCasts_S24576_S24576x1) (broadcast S24576x1 (Scalar.ofBits .f32 0x3B124925#32))) p
  refine Eq.trans ?_ (h.trans (congrArg Scale.rexp hr))
  refine congrFun ?_ (ix2 p 0)
  unfold k0_pay3 k0_pay2 expOf table
  have hl : shapeCast S1x256 lanes shapeCasts_S1x256_S1x256 = lanes := shapeCast_self _ _
  dsimp only
  rw [hl]

/-- The scales. -/
theorem scale (x : FVec Ideal S24576x5120 .bf16) (p : Fin 24576) :
    k0_pay4 (F := Ideal) x (ix2 p 0) = Scale.scale fun j : Fin 5120 => x (ix2 p j) := by
  have h : ∀ e : FVec Ideal S24576x1 .f32, exp2 e (ix2 p 0) = Ideal.exp2 (e (ix2 p 0)) := fun _ => rfl
  have e : k0_pay4 (F := Ideal) x = exp2 (k0_pay3 (F := Ideal) x) := by unfold k0_pay4; rfl
  rw [e, h]
  exact congrArg Ideal.exp2 (exponent x p)

/-- The codes, from any exponents. -/
theorem code_of (x : FVec Ideal S24576x5120 .bf16) (e : FVec Ideal S24576x1 .f32) (p : Fin 24576) (q : Fin 5120) :
    truncf (F := Ideal) .fp8e4m3 (minimumf (broadcast S24576x5120 (Scalar.ofBits .f32 0x43E00000#32))
      (maximumf (broadcast S24576x5120 (Scalar.ofBits .f32 0xC3E00000#32))
        (mulf (extf .f32 x bitsLt_bf16_f32)
          (broadcastTo S24576x5120 (exp2 (subf (broadcast S24576x1 (Scalar.ofBits .f32 0x00000000#32)) e)) broadcasts_S24576x1_S24576x5120))))
      bitsLt_fp8e4m3_f32 (ix2 p q)
      = min (Ideal.ofBits .f32 1138753536#32) (max (Ideal.ofBits .f32 3286237184#32) (x (ix2 p q) * Ideal.exp2 (0 - e (ix2 p 0)))) := by
  have hb := bc_col (by decide) (exp2 (subf (broadcast S24576x1 (Scalar.ofBits .f32 0x00000000#32)) e)) broadcasts_S24576x1_S24576x5120 p q
  rw [← Scale.f32_zero]
  exact congrArg (fun z : EReal => min (Ideal.ofBits .f32 1138753536#32) (max (Ideal.ofBits .f32 3286237184#32) (x (ix2 p q) * z))) hb

/-- The codes. -/
theorem code (x : FVec Ideal S24576x5120 .bf16) (p : Fin 24576) (q : Fin 5120) :
    k0_pay5 (F := Ideal) x (ix2 p q) = Scale.code (fun j : Fin 5120 => x (ix2 p j)) q := by
  have h := code_of x (k0_pay3 (F := Ideal) x) p q
  rw [exponent] at h
  exact h

/-- A product of the codes with one expert's matrix. -/
theorem mm (c : FVec Ideal S24576x5120 .fp8e4m3) (w : FVec Ideal S1x5120x2048 .fp8e4m3) (p : Fin 24576) (q : Fin 2048) :
    matmul (F := Ideal) dot_S24576x5120_S5120x2048_S24576x2048_1_0_0_1_n_n none c (shapeCast S5120x2048 w shapeCasts_S1x5120x2048_S5120x2048)
      (constant S24576x2048 .f32 0x00000000#32) (ix2 p q) = ∑ k : Fin 5120, c (ix2 p k) * w (ix3 0 k q) := by
  pointwise

/-- The products of experts 0 and 1, each on its own rows. -/
theorem acc01 (c : FVec Ideal S24576x5120 .fp8e4m3) (ids : Vec Ideal S24576x1 .i32) (w0 w1 : FVec Ideal S1x5120x2048 .fp8e4m3)
    (p : Fin 24576) (q : Fin 2048) :
    k0_pay7 (F := Ideal) c ids w0 w1 (ix2 p q) =
      Scalar.select (IntOp.cmpi .eq (ids (ix2 p 0)) 1#32) (∑ k : Fin 5120, c (ix2 p k) * w1 (ix3 0 k q))
        (Scalar.select (IntOp.cmpi .eq (ids (ix2 p 0)) 0#32) (∑ k : Fin 5120, c (ix2 p k) * w0 (ix3 0 k q)) 0) := by
  unfold k0_pay7 k0_pay6
  simp only [ValueIdx.select_apply, shapeCast_self]
  rw [bc_col (by decide), bc_col (by decide), mm, mm, ← Scale.f32_zero]
  rfl

/-- The column scales of experts 0 and 1, each on its own rows. -/
theorem ws01 (ids : Vec Ideal S24576x1 .i32) (s0 s1 : FVec Ideal S1x2048 .f32) (p : Fin 24576) (q : Fin 2048) :
    k0_pay8 (F := Ideal) ids s0 s1 (ix2 p q) =
      Scalar.select (IntOp.cmpi .eq (ids (ix2 p 0)) 1#32) (s1 (ix2 0 q))
        (Scalar.select (IntOp.cmpi .eq (ids (ix2 p 0)) 0#32) (s0 (ix2 0 q)) 0) := by
  unfold k0_pay8 k0_pay6
  simp only [ValueIdx.select_apply, shapeCast_self]
  rw [bc_col (by decide), bc_col (by decide), bc_row (by decide), bc_row (by decide), ← Scale.f32_zero]
  rfl

/-- The outputs. -/
theorem out (x : FVec Ideal S24576x5120 .bf16) (ids : Vec Ideal S24576x1 .i32) (w : Fin 4 → FVec Ideal S1x5120x2048 .fp8e4m3)
    (s : Fin 4 → FVec Ideal S1x2048 .f32) (p : Fin 24576) (q : Fin 2048) :
    k0_pay1 (F := Ideal) (k0_pay4 (F := Ideal) x) (k0_pay5 (F := Ideal) x) (k0_pay6 (F := Ideal) ids)
        (k0_pay7 (F := Ideal) (k0_pay5 (F := Ideal) x) ids (w 0) (w 1)) (k0_pay8 (F := Ideal) ids (s 0) (s 1)) (k0_pay9 (F := Ideal) ids)
        (w 2) (s 2) (w 3) (s 3) (ix2 p q) =
      Scale.out (fun j : Fin 5120 => x (ix2 p j)) (ids (ix2 p 0)) (fun e k => w e (ix3 0 k q)) (fun e => s e (ix2 0 q)) := by
  unfold Scale.out Scale.pick
  rw [← scale]
  simp only [← code]
  generalize k0_pay4 (F := Ideal) x = sc
  generalize k0_pay5 (F := Ideal) x = c
  rw [← acc01, ← ws01]
  generalize k0_pay7 (F := Ideal) c ids (w 0) (w 1) = a
  generalize k0_pay8 (F := Ideal) ids (s 0) (s 1) = b
  unfold k0_pay1 k0_pay9 k0_pay6
  simp only [ValueIdx.select_apply, shapeCast_self, truncf_apply, mulf_apply]
  simp only [bc_col (show 24576 ≠ 1 by decide), bc_row (show 2048 ≠ 1 by decide), mm]
  rfl

end Cert.ReferenceIdeal.Read
-- ==== Proof.ReferenceIdealValue.lean ====
/-
  What the reference's three output arrays hold at the end: the functions of Result.lean at its argument arrays.
-/
module

public import proofs.«01_k».proof.Proof.Gen.ReferenceIdeal.Value
public import proofs.«01_k».proof.Proof.ReferenceIdealRead
public import proofs.«01_k».proof.Proof.Result
public import Idealize.ShloMosaic.Lib.Pipeline.ValueKit
public import Idealize.ShloMosaic.Lib.StableHlo.Run

@[expose] public section

set_option maxRecDepth 16384

noncomputable section

namespace Cert.ReferenceIdeal.Final

open Idealize.ShloMosaic Idealize.ShloMosaic.TcCoe Idealize.SL.Sem
open Idealize.ShloMosaic.Pipeline (Dat)
open Cert.ReferenceIdeal Cert.ReferenceIdeal.Gen

theorem hz : (![0, 0] : Fin 2 → Nat) = fun _ => 0 := funext fun a => by fin_cases a <;> rfl

/-- An index of a matrix, by its coordinates. -/
theorem ix2_eta {R C : ℕ} (j : (⟨2, ![R, C]⟩ : Shape).Idx) : ix2 (j 0) (j 1) = j := (funext fun a => by fin_cases a <;> rfl)

/-- The codes block, from the input block. -/
theorem out5 (x0 : Vec Ideal S24576x5120 .bf16) (x1 : Vec Ideal S24576x1 .i32) (x2 : Vec Ideal S4x5120x2048 .fp8e4m3) (x3 : Vec Ideal S4x2048 .f32) :
    out0_5 (F := Ideal) x0 x1 x2 x3 = Result.codes x0 := by
  unfold out0_5
  rw [View.canon_unit_zero hz, View.ld_unit_zero hz]
  funext j
  rw [← ix2_eta j]
  exact Read.code x0 (j 0) (j 1)

/-- The scales block, from the input block. -/
theorem out6 (x0 : Vec Ideal S24576x5120 .bf16) (x1 : Vec Ideal S24576x1 .i32) (x2 : Vec Ideal S4x5120x2048 .fp8e4m3) (x3 : Vec Ideal S4x2048 .f32) :
    out0_6 (F := Ideal) x0 x1 x2 x3 = Result.scales x0 := by
  unfold out0_6
  rw [View.canon_unit_zero hz, View.ld_unit_zero hz]
  funext j
  have hj : j = ix2 (j 0) 0 := funext fun a => match a with
    | ⟨0, _⟩ => rfl
    | ⟨1, _⟩ => Fin.ext (by have h : (j 1 : ℕ) < 1 := (j 1).isLt; show (j 1 : ℕ) = 0; omega)
  exact (congrArg (k0_pay4 (F := Ideal) x0) hj).trans (Read.scale x0 (j 0))

/-- The output block, from the input blocks. -/
theorem out4 (x0 : Vec Ideal S24576x5120 .bf16) (x1 : Vec Ideal S24576x1 .i32) (x2 : Vec Ideal S4x5120x2048 .fp8e4m3) (x3 : Vec Ideal S4x2048 .f32)
    (p : Fin 24576) (q : Fin 2048) :
    out0_4 (F := Ideal) x0 x1 x2 x3 (ix2 p q) =
      Scale.out (fun j : Fin 5120 => x0 (ix2 p j)) (x1 (ix2 p 0)) (fun (e : Fin 4) k => x2 (ix3 e k q)) (fun e : Fin 4 => x3 (ix2 e q)) := by
  unfold out0_4 k0_pay10
  rw [View.canon_unit_zero hz, View.ld_unit_zero (S := S24576x5120) hz, View.ld_unit_zero (S := S24576x1) hz]
  refine (Read.out x0 x1 (fun e => match e with | 0 => View.ld x2 r0_2 | 1 => View.ld x2 r0_4 | 2 => View.ld x2 r0_6 | 3 => View.ld x2 r0_8)
    (fun e => match e with | 0 => View.ld x3 r0_3 | 1 => View.ld x3 r0_5 | 2 => View.ld x3 r0_7 | 3 => View.ld x3 r0_9) p q).trans ?_
  refine congrArg₂ (Scale.out _ _) ?_ ?_
  · funext e k
    match e with
    | 0 | 1 | 2 | 3 =>
      refine congrArg x2 (funext fun a => Fin.ext ?_)
      match a with
      | ⟨0, _⟩ => rfl
      | ⟨1, _⟩ => show 0 + 1 * (k : ℕ) = k; omega
      | ⟨2, _⟩ => show 0 + 1 * (q : ℕ) = q; omega
  · funext e
    match e with
    | 0 | 1 | 2 | 3 =>
      refine congrArg x3 (funext fun a => Fin.ext ?_)
      match a with
      | ⟨0, _⟩ => rfl
      | ⟨1, _⟩ => show 0 + 1 * (q : ℕ) = q; omega

variable (m : (ℓ : Loc nD τ sig) → Buf (Elt Ideal) ℓ) (ρ : Dev nD → PrngReg)

/-- The column of expert ids that the host passes to the call. -/
theorem V_ids (c : Dev nD) (p : Fin 24576) :
    (V m c main_v0 : Vec Ideal S24576x1 .i32) (ix2 p 0) = (m ((c : Thread nD τ).loc main_arg1) : IVec S24576 32) (ix1 p) := by
  have h : V m c main_v0 = shapeCast S24576x1 (m ((c : Thread nD τ).loc main_arg1) : IVec S24576 32) shapeCasts_S24576_S24576x1 := by
    show StableHlo.after hostOps0 _ (Proc.devRef .tc main_v0) = _
    after_results
    rfl
  rw [h]
  exact Reads.col_cast _ _ p

/-- Every window's block index at the one point. -/
theorem idx : ∀ t : Fin cfg0.N, win0_0.index t = ![0, 0] ∧ win0_1.index t = ![0, 0] ∧ win0_2.index t = ![0, 0, 0] ∧ win0_3.index t = ![0, 0] :=
  (by decide +kernel : ∀ t : Fin grid0.N, _)

theorem iblk0 (c : Dev nD) : iblk m c 0 t0_0 = m ((c : Thread nD τ).loc main_arg0) := by
  rw [← V_main_arg0 m c]; blk_ext! [iblk, idx t0_0]
theorem iblk1 (c : Dev nD) : iblk m c 1 t0_0 = V m c main_v0 := by
  blk_ext! [iblk, idx t0_0]
theorem iblk2 (c : Dev nD) : iblk m c 2 t0_0 = m ((c : Thread nD τ).loc main_arg2) := by
  rw [← V_main_arg2 m c]; blk_ext! [iblk, idx t0_0]
theorem iblk3 (c : Dev nD) : iblk m c 3 t0_0 = m ((c : Thread nD τ).loc main_arg3) := by
  rw [← V_main_arg3 m c]; blk_ext! [iblk, idx t0_0]

theorem final4 (c : Dev nD) : (dats m 0 c).arrAt 4 cfg0.N
    = Result.out (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_0 (by decide +kernel) _ fun j => ?_
  blk_simp
  rw [after0_4, iblk0, iblk1, iblk2, iblk3]
  refine (congrArg _ (ix2_eta j).symm).trans ((out4 _ _ _ _ (j 0) (j 1)).trans ?_)
  exact congrArg (fun b => Scale.out _ b _ _) (V_ids m c (j 0))

theorem final5 (c : Dev nD) : (dats m 0 c).arrAt 5 cfg0.N = Result.codes (m ((c : Thread nD τ).loc main_arg0)) := by
  refine (dats m 0 c).arrAt_eq_of_after_last 5 t0_0 (by decide +kernel) _ fun j => ?_
  blk_simp
  rw [after0_5, iblk0, out5]

theorem final6 (c : Dev nD) : (dats m 0 c).arrAt 6 cfg0.N = Result.scales (m ((c : Thread nD τ).loc main_arg0)) := by
  refine (dats m 0 c).arrAt_eq_of_after_last 6 t0_0 (by decide +kernel) _ fun j => ?_
  blk_simp
  rw [after0_6, iblk0, out6]

/-- The reference's run: every result is the function of Result.lean, and the arguments end unchanged. -/
theorem run : θ_run defs (onTc (τ := τ) (main (F := Ideal))) ⟨m, fun _ => 0, ρ⟩ fun r => ∀ c : Dev nD,
      r.2.mem ((c : Thread nD τ).loc main_v1_0)
        = Result.out (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = Result.codes (m ((c : Thread nD τ).loc main_arg0))
      ∧ r.2.mem ((c : Thread nD τ).loc main_v1_2) = Result.scales (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
      obtain ⟨h4, h5, h6, ha⟩ := h c
      exact ⟨h4.trans (final4 m c), h5.trans (final5 m c), h6.trans (final6 m c), ha⟩)
    (Value.run_blocks m ρ)

end Cert.ReferenceIdeal.Final
end
-- ==== Proof.lean ====
/-
  The proof of `Cert.Claim`: every program's frame — from any launch memory it terminates, leaves its arguments as they were
  and ends with every semaphore counter at zero —, that the idealisation kept the kernel's text, and that on good arguments the
  idealised kernel and the idealised reference end with the same outputs, codes and scales.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_inputs_ok
public import proofs.«01_k».proof.Proof.KernelRun
public import proofs.«01_k».proof.Proof.KernelIdealRun
public import proofs.«01_k».proof.Proof.KernelIdealValue
public import proofs.«01_k».proof.Proof.ReferenceIdealValue

@[expose] public section

noncomputable section

namespace Cert.Proof

open Idealize.ShloMosaic Idealize.ShloMosaic.TcCoe Idealize.SL.Sem

/-- The precondition, on every device, says that the arguments are good. -/
theorem good [Cert.Pre_inputs_ok.Facts]
    (m : (ℓ : Loc Cert.KernelIdeal.nD Cert.KernelIdeal.τ Cert.KernelIdeal.sig) → Buf (Elt Ideal) ℓ)
    (h : ∀ c : Dev Cert.KernelIdeal.nD, Cert.Pre_inputs_ok.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) = fun _ => 1#1)
    (c : Dev Cert.KernelIdeal.nD) :
    Cert.Result.Good (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) :=
  Cert.Result.good_of _ _ _ _ (h c)

/-- All the claims together. -/
theorem claim : Cert.Claim := ⟨Cert.Kernel.Gen.facts, Cert.KernelIdeal.Gen.facts, Cert.ReferenceIdeal.Gen.facts, Cert.Pre_inputs_ok.Gen.facts,
  fun m g _ => Cert.Kernel.Run.frame m g,
  fun m g _ => Cert.KernelIdeal.Run.frame m g,
  fun m g _ => Cert.KernelIdeal.Run.frame m g,
  fun m g _ => Cert.ReferenceIdeal.Gen.frame m g,
  fun m g _ => Cert.ReferenceIdeal.Gen.frame m g,
  trivial,
  fun m g m' g' hpre hargs => by
    have := Cert.Pre_inputs_ok.Gen.facts
    have hr := Cert.ReferenceIdeal.Final.run m' g'
    refine ⟨_, _, _, Cert.KernelIdeal.Final.run m g (good m hpre), (θ_run _ _ _).mono (fun r h c => ?_) hr⟩
    obtain ⟨h4, h5, h6, ha⟩ := h c
    obtain ⟨e0, e1, e2, e3⟩ := hargs c
    exact ⟨h4.trans (by rw [e0, e1, e2, e3]), h5.trans (by rw [e0]), h6.trans (by rw [e0]), ha⟩⟩

end Cert.Proof

end
